-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_padding [hPre_below_padding : Cert.Pre_below_padding.Facts] (m : (ℓ : Loc Cert.KernelIdeal.nD Cert.KernelIdeal.τ Cert.KernelIdeal.sig) → Buf (Elt Ideal) ℓ) : Prop :=
  ∀ c : Dev Cert.KernelIdeal.nD,
    (Cert.Pre_below_padding.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_padding [hPre_below_padding : Cert.Pre_below_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_padding.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_padding [hKernelIdeal : Cert.KernelIdeal.Facts] [hPre_below_padding : Cert.Pre_below_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_padding [hReferenceIdeal : Cert.ReferenceIdeal.Facts] [hPre_below_padding : Cert.Pre_below_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "sl" .f32 0x4140307C#32 (((Real.sqrt ((1 / 2) * (Real.log 2)⁻¹)) * (99 / 7) : ℝ) : EReal)
  ∧ IdealRules.named_const.Statement Cert.KernelIdeal.κ "far" .f32 0x46EA6000#32 ⊤

def algebraic_KernelIdeal_ReferenceIdeal_pre_below_padding [hKernelIdeal : Cert.KernelIdeal.Facts] [hReferenceIdeal : Cert.ReferenceIdeal.Facts] [hPre_below_padding : Cert.Pre_below_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_cst)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_padding : Cert.Pre_below_padding.Facts),
    quiescent_Kernel (hKernel := hKernel)
    ∧ quiescent_KernelIdeal (hKernelIdeal := hKernelIdeal)
    ∧ quiescent_KernelIdeal_pre_below_padding (hKernelIdeal := hKernelIdeal) (hPre_below_padding := hPre_below_padding)
    ∧ quiescent_ReferenceIdeal (hReferenceIdeal := hReferenceIdeal)
    ∧ quiescent_ReferenceIdeal_pre_below_padding (hReferenceIdeal := hReferenceIdeal) (hPre_below_padding := hPre_below_padding)
    ∧ preserves_Kernel_KernelIdeal
    ∧ algebraic_KernelIdeal_ReferenceIdeal_pre_below_padding (hKernelIdeal := hKernelIdeal) (hReferenceIdeal := hReferenceIdeal) (hPre_below_padding := hPre_below_padding)
-- ==== Pre_below_padding.lean ====
abbrev S3000x3 : Shape := ⟨2, ![3000, 3]⟩
abbrev S_ : Shape := ⟨0, ![]⟩

class Facts : Prop where
  bcast_S_S3000x3 : S_.BroadcastsInDim S3000x3 (![] : Fin 0 → Fin S3000x3.rank)
  reducesTo_S3000x3_S_d0_1 : S3000x3.ReducesTo [0, 1] S_
  h_S_ : 0 < S_.numel

variable [Facts]

def fn {F : FTy → Type} [FloatOps F] (main_arg0 : FVec F S3000x3 .f32) : IVec S_ 1 :=
  let main_cst : FVec F S_ .f32 := constant S_ .f32 0x48F42400#32
  let main_v0 : FVec F S3000x3 .f32 := broadcastInDim S3000x3 ![] bcast_S_S3000x3 main_cst
  let main_v1 : IVec S3000x3 1 := cmpf .olt main_arg0 main_v0
  let main_c : IVec S_ 1 := constantI S_ 1 1#1
  let main_v2 : IVec S_ 1 := (fun x v => Host.reduce IntOp.andi x v reducesTo_S3000x3_S_d0_1 h_S_) main_v1 main_c
  main_v2
-- ==== Kernel.lean ====
abbrev S3000x3 : Shape := ⟨2, ![3000, 3]⟩
abbrev S78 : Shape := ⟨1, ![78]⟩
abbrev S101 : Shape := ⟨1, ![101]⟩
abbrev S_ : Shape := ⟨0, ![]⟩
abbrev S3072x3 : Shape := ⟨2, ![3072, 3]⟩
abbrev S1 : Shape := ⟨1, ![1]⟩
abbrev S3x3072 : Shape := ⟨2, ![3, 3072]⟩
abbrev S104 : Shape := ⟨1, ![104]⟩
abbrev S104x1 : Shape := ⟨2, ![104, 1]⟩
abbrev S104x256 : Shape := ⟨2, ![104, 256]⟩
abbrev S100 : Shape := ⟨1, ![100]⟩
abbrev S1x100 : Shape := ⟨2, ![1, 100]⟩
abbrev S256x3 : Shape := ⟨2, ![256, 3]⟩
abbrev S3x256 : Shape := ⟨2, ![3, 256]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S8x256 : Shape := ⟨2, ![8, 256]⟩
abbrev S100x256 : Shape := ⟨2, ![100, 256]⟩
abbrev S1x1x100 : Shape := ⟨3, ![1, 1, 100]⟩
abbrev S1x1x1 : Shape := ⟨3, ![1, 1, 1]⟩

abbrev nBuf : Space → Nat
  | .hbm => 59
  | .vmem => 11
  | .smem => 2
  | _ => 0

abbrev bufTy : (tb : Table) → Fin (tcTables nBuf tb) → BufTy
  | .hbm, ⟨0, _⟩ => ⟨S3000x3, .f32⟩
  | .hbm, ⟨1, _⟩ => ⟨S101, .f32⟩
  | .hbm, ⟨2, _⟩ => ⟨S_, .f32⟩
  | .hbm, ⟨3, _⟩ => ⟨S3072x3, .f32⟩
  | .hbm, ⟨4, _⟩ => ⟨S_, .i32⟩
  | .hbm, ⟨5, _⟩ => ⟨S1, .i32⟩
  | .hbm, ⟨6, _⟩ => ⟨S3072x3, .f32⟩
  | .hbm, ⟨7, _⟩ => ⟨S3x3072, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S104, .i32⟩
  | .hbm, ⟨18, _⟩ => ⟨S_, .i32⟩
  | .hbm, ⟨19, _⟩ => ⟨S104, .i32⟩
  | .hbm, ⟨20, _⟩ => ⟨S104, .i1⟩
  | .hbm, ⟨21, _⟩ => ⟨S104, .f32⟩
  | .hbm, ⟨22, _⟩ => ⟨S104, .f32⟩
  | .hbm, ⟨23, _⟩ => ⟨S104, .f32⟩
  | .hbm, ⟨24, _⟩ => ⟨S104, .f32⟩
  | .hbm, ⟨25, _⟩ => ⟨S104, .f32⟩
  | .hbm, ⟨26, _⟩ => ⟨S_, .f32⟩
  | .hbm, ⟨27, _⟩ => ⟨S104, .f32⟩
  | .hbm, ⟨28, _⟩ => ⟨S104, .f32⟩
  | .hbm, ⟨29, _⟩ => ⟨S104x1, .f32⟩
  | .hbm, ⟨30, _⟩ => ⟨S104x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S100, .i32⟩
  | .hbm, ⟨35, _⟩ => ⟨S100, .f32⟩
  | .hbm, ⟨36, _⟩ => ⟨S100, .f32⟩
  | .hbm, ⟨37, _⟩ => ⟨S100, .f32⟩
  | .hbm, ⟨38, _⟩ => ⟨S100, .f32⟩
  | .hbm, ⟨39, _⟩ => ⟨S100, .f32⟩
  | .hbm, ⟨40, _⟩ => ⟨S100, .f32⟩
  | .hbm, ⟨41, _⟩ => ⟨S100, .f32⟩
  | .hbm, ⟨42, _⟩ => ⟨S100, .f32⟩
  | .hbm, ⟨43, _⟩ => ⟨S100, .f32⟩
  | .hbm, ⟨44, _⟩ => ⟨S100, .f32⟩
  | .hbm, ⟨45, _⟩ => ⟨S_, .f32⟩
  | .hbm, ⟨46, _⟩ => ⟨S100, .f32⟩
  | .hbm, ⟨47, _⟩ => ⟨S100, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S100, .f32⟩
  | .hbm, ⟨52, _⟩ => ⟨S100, .f32⟩
  | .hbm, ⟨53, _⟩ => ⟨S1x100, .f32⟩
  | .hbm, ⟨54, _⟩ => ⟨S104x256, .f32⟩
  | .hbm, ⟨55, _⟩ => ⟨S1x100, .f32⟩
  | .hbm, ⟨56, _⟩ => ⟨S1x100, .f32⟩
  | .hbm, ⟨57, _⟩ => ⟨S100, .f32⟩
  | .hbm, ⟨58, _⟩ => ⟨S100, .f32⟩
  | .local _ .vmem, ⟨0, _⟩ => ⟨S256x3, .f32⟩
  | .local _ .vmem, ⟨1, _⟩ => ⟨S256x3, .f32⟩
  | .local _ .vmem, ⟨2, _⟩ => ⟨S3x256, .f32⟩
  | .local _ .vmem, ⟨3, _⟩ => ⟨S3x256, .f32⟩
  | .local _ .vmem, ⟨4, _⟩ => ⟨S104x256, .f32⟩
  | .local _ .vmem, ⟨5, _⟩ => ⟨S104x256, .f32⟩
  | .local _ .vmem, ⟨6, _⟩ => ⟨S256x256, .f32⟩
  | .local _ .vmem, ⟨7, _⟩ => ⟨S104x256, .f32⟩
  | .local _ .vmem, ⟨8, _⟩ => ⟨S1x100, .f32⟩
  | .local _ .vmem, ⟨9, _⟩ => ⟨S1x100, .f32⟩
  | .local _ .vmem, ⟨10, _⟩ => ⟨S1x100, .f32⟩
  | .local _ .smem, ⟨0, _⟩ => ⟨S78, .i32⟩
  | .local _ .smem, ⟨1, _⟩ => ⟨S78, .i32⟩
  | _, _ => ⟨S3000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_1 : Ref sig .tc := ⟨.hbm, 2, rfl⟩
abbrev main_v0 : Ref sig .tc := ⟨.hbm, 3, rfl⟩
abbrev main_c_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_3 : Ref sig .tc := ⟨.hbm, 8, rfl⟩
abbrev main_cst_4 : Ref sig .tc := ⟨.hbm, 9, rfl⟩
abbrev main_v4 : Ref sig .tc := ⟨.hbm, 10, rfl⟩
abbrev main_cst_5 : Ref sig .tc := ⟨.hbm, 11, rfl⟩
abbrev main_v5 : Ref sig .tc := ⟨.hbm, 12, rfl⟩
abbrev main_cst_6 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_7 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_8 : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_9 : Ref sig .tc := ⟨.hbm, 31, rfl⟩
abbrev main_cst_10 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_11 : Ref sig .tc := ⟨.hbm, 45, rfl⟩
abbrev main_v32 : Ref sig .tc := ⟨.hbm, 46, rfl⟩
abbrev main_v33 : Ref sig .tc := ⟨.hbm, 47, rfl⟩
abbrev main_cst_12 : Ref sig .tc := ⟨.hbm, 48, rfl⟩
abbrev main_cst_13 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![78], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_7 : BitVec 32 := 0#32
  let c128_i32 : BitVec 32 := 128#32
  let v19 : BitVec 32 := Scalar.addi c0_i32_7 c128_i32
  let c1_i32_8 : BitVec 32 := 1#32
  ⟨c0_i32_7, v19, c1_i32_8⟩
def k0_off2 (k0_t1 : Fin k0_t1_loop.trips) : Fin 2 → Nat :=
  let c2_i32 : BitVec 32 := 2#32
  let c0_i32_7 : BitVec 32 := 0#32
  let c1_i32_8 : BitVec 32 := 1#32
  let arg8 : BitVec 32 := Scf.iv c0_i32_7 c1_i32_8 k0_t1
  let v20 : BitVec 32 := Scalar.muli c2_i32 arg8
  let v21 : Index := Scalar.indexCast v20
  let c0 : Index := 0#32
  ![v21.toNat, 0]
def k0_off3 (k0_t1 : Fin k0_t1_loop.trips) : Fin 2 → Nat :=
  let c2_i32_10 : BitVec 32 := 2#32
  let c0_i32_7 : BitVec 32 := 0#32
  let c1_i32_8 : BitVec 32 := 1#32
  let arg8 : BitVec 32 := Scf.iv c0_i32_7 c1_i32_8 k0_t1
  let v25 : BitVec 32 := Scalar.muli c2_i32_10 arg8
  let c1_i32_11 : BitVec 32 := 1#32
  let v26 : BitVec 32 := Scalar.addi v25 c1_i32_11
  let v27 : Index := Scalar.indexCast v26
  let c0_12 : Index := 0#32
  ![v27.toNat, 0]
def cc0_transform_0 (k0_off1_inb : ∀ i : grid0.Coords, ∀ a, (k0_off1 i) a + S1.size a ≤ S78.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S78) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S78.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S78) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S104x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S104x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

abbrev stage1_0 : Fin 1 → Memref sig .tc .vmem S104x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== KernelIdeal.lean ====
variable {F : FTy → Type} [FloatOps F] [Named F]
def κ : String → Option EReal := fun
  | "far" => some ⊤
  | "sl" => some (((Real.sqrt ((1 / 2) * (Real.log 2)⁻¹)) * (99 / 7) : ℝ) : EReal)
  | _ => none
-- ==== ReferenceIdeal.lean ====
abbrev S3000x3 : Shape := ⟨2, ![3000, 3]⟩
abbrev S101 : Shape := ⟨1, ![101]⟩
abbrev S1x3000x3 : Shape := ⟨3, ![1, 3000, 3]⟩
abbrev S3000x1x3 : Shape := ⟨3, ![3000, 1, 3]⟩
abbrev S3000x3000x3 : Shape := ⟨3, ![3000, 3000, 3]⟩
abbrev S_ : Shape := ⟨0, ![]⟩
abbrev S3000x3000 : Shape := ⟨2, ![3000, 3000]⟩
abbrev S100 : Shape := ⟨1, ![100]⟩
abbrev S3000x3000x1 : Shape := ⟨3, ![3000, 3000, 1]⟩
abbrev S1x1x100 : Shape := ⟨3, ![1, 1, 100]⟩
abbrev S3000x3000x100 : Shape := ⟨3, ![3000, 3000, 100]⟩

abbrev nBuf : Space → Nat
  | .hbm => 91
  | .vmem => 0
  | .smem => 0
  | _ => 0

abbrev bufTy : (tb : Table) → Fin (tcTables nBuf tb) → BufTy
  | .hbm, ⟨0, _⟩ => ⟨S3000x3, .f32⟩
  | .hbm, ⟨1, _⟩ => ⟨S101, .f32⟩
  | .hbm, ⟨2, _⟩ => ⟨S1x3000x3, .f32⟩
  | .hbm, ⟨3, _⟩ => ⟨S3000x1x3, .f32⟩
  | .hbm, ⟨4, _⟩ => ⟨S3000x3000x3, .f32⟩
  | .hbm, ⟨5, _⟩ => ⟨S3000x3000x3, .f32⟩
  | .hbm, ⟨6, _⟩ => ⟨S3000x3000x3, .f32⟩
  | .hbm, ⟨7, _⟩ => ⟨S_, .f32⟩
  | .hbm, ⟨8, _⟩ => ⟨S3000x3000x3, .f32⟩
  | .hbm, ⟨9, _⟩ => ⟨S3000x3000x3, .i1⟩
  | .hbm, ⟨10, _⟩ => ⟨S3000x3000x3, .f32⟩
  | .hbm, ⟨11, _⟩ => ⟨S3000x3000x3, .f32⟩
  | .hbm, ⟨12, _⟩ => ⟨S_, .f32⟩
  | .hbm, ⟨13, _⟩ => ⟨S3000x3000x3, .f32⟩
  | .hbm, ⟨14, _⟩ => ⟨S3000x3000x3, .i1⟩
  | .hbm, ⟨15, _⟩ => ⟨S3000x3000x3, .f32⟩
  | .hbm, ⟨16, _⟩ => ⟨S3000x3000x3, .f32⟩
  | .hbm, ⟨17, _⟩ => ⟨S_, .f32⟩
  | .hbm, ⟨18, _⟩ => ⟨S3000x3000x3, .f32⟩
  | .hbm, ⟨19, _⟩ => ⟨S3000x3000x3, .f32⟩
  | .hbm, ⟨20, _⟩ => ⟨S3000x3000x3, .f32⟩
  | .hbm, ⟨21, _⟩ => ⟨S3000x3000x3, .f32⟩
  | .hbm, ⟨22, _⟩ => ⟨S_, .f32⟩
  | .hbm, ⟨23, _⟩ => ⟨S3000x3000, .f32⟩
  | .hbm, ⟨24, _⟩ => ⟨S_, .f32⟩
  | .hbm, ⟨25, _⟩ => ⟨S3000x3000, .f32⟩
  | .hbm, ⟨26, _⟩ => ⟨S3000x3000, .i1⟩
  | .hbm, ⟨27, _⟩ => ⟨S_, .f32⟩
  | .hbm, ⟨28, _⟩ => ⟨S3000x3000, .f32⟩
  | .hbm, ⟨29, _⟩ => ⟨S3000x3000, .i1⟩
  | .hbm, ⟨30, _⟩ => ⟨S3000x3000, .i1⟩
  | .hbm, ⟨31, _⟩ => ⟨S_, .f32⟩
  | .hbm, ⟨32, _⟩ => ⟨S_, .f32⟩
  | .hbm, ⟨33, _⟩ => ⟨S3000x3000, .f32⟩
  | .hbm, ⟨34, _⟩ => ⟨S3000x3000, .f32⟩
  | .hbm, ⟨35, _⟩ => ⟨S3000x3000, .f32⟩
  | .hbm, ⟨36, _⟩ => ⟨S3000x3000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S100, .i32⟩
  | .hbm, ⟨41, _⟩ => ⟨S100, .f32⟩
  | .hbm, ⟨42, _⟩ => ⟨S100, .f32⟩
  | .hbm, ⟨43, _⟩ => ⟨S100, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S3000x3000x1, .f32⟩
  | .hbm, ⟨48, _⟩ => ⟨S1x1x100, .f32⟩
  | .hbm, ⟨49, _⟩ => ⟨S3000x3000x100, .f32⟩
  | .hbm, ⟨50, _⟩ => ⟨S3000x3000x100, .f32⟩
  | .hbm, ⟨51, _⟩ => ⟨S3000x3000x100, .f32⟩
  | .hbm, ⟨52, _⟩ => ⟨S3000x3000x100, .f32⟩
  | .hbm, ⟨53, _⟩ => ⟨S3000x3000x100, .f32⟩
  | .hbm, ⟨54, _⟩ => ⟨S3000x3000x100, .f32⟩
  | .hbm, ⟨55, _⟩ => ⟨S3000x3000x100, .f32⟩
  | .hbm, ⟨56, _⟩ => ⟨S3000x3000x1, .f32⟩
  | .hbm, ⟨57, _⟩ => ⟨S3000x3000x100, .f32⟩
  | .hbm, ⟨58, _⟩ => ⟨S3000x3000x100, .f32⟩
  | .hbm, ⟨59, _⟩ => ⟨S_, .f32⟩
  | .hbm, ⟨60, _⟩ => ⟨S100, .f32⟩
  | .hbm, ⟨61, _⟩ => ⟨S_, .f32⟩
  | .hbm, ⟨62, _⟩ => ⟨S_, .f32⟩
  | .hbm, ⟨63, _⟩ => ⟨S100, .f32⟩
  | .hbm, ⟨64, _⟩ => ⟨S100, .f32⟩
  | .hbm, ⟨65, _⟩ => ⟨S101, .i32⟩
  | .hbm, ⟨66, _⟩ => ⟨S101, .f32⟩
  | .hbm, ⟨67, _⟩ => ⟨S_, .f32⟩
  | .hbm, ⟨68, _⟩ => ⟨S101, .f32⟩
  | .hbm, ⟨69, _⟩ => ⟨S101, .f32⟩
  | .hbm, ⟨70, _⟩ => ⟨S_, .f32⟩
  | .hbm, ⟨71, _⟩ => ⟨S101, .f32⟩
  | .hbm, ⟨72, _⟩ => ⟨S101, .f32⟩
  | .hbm, ⟨73, _⟩ => ⟨S100, .f32⟩
  | .hbm, ⟨74, _⟩ => ⟨S100, .f32⟩
  | .hbm, ⟨75, _⟩ => ⟨S100, .f32⟩
  | .hbm, ⟨76, _⟩ => ⟨S100, .f32⟩
  | .hbm, ⟨77, _⟩ => ⟨S100, .f32⟩
  | .hbm, ⟨78, _⟩ => ⟨S100, .f32⟩
  | .hbm, ⟨79, _⟩ => ⟨S100, .f32⟩
  | .hbm, ⟨80, _⟩ => ⟨S_, .f32⟩
  | .hbm, ⟨81, _⟩ => ⟨S100, .f32⟩
  | .hbm, ⟨82, _⟩ => ⟨S100, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S100, .f32⟩
  | .hbm, ⟨89, _⟩ => ⟨S100, .f32⟩
  | .hbm, ⟨90, _⟩ => ⟨S100, .f32⟩
  | _, _ => ⟨S3000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_cst_16 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Proof.HistRun.lean ====
module

public import proofs.«01_k».proof.Proof.Gen.KernelIdeal.Loops
public import proofs.«01_k».proof.Proof.Gen.KernelIdeal.Points
public import proofs.«01_k».proof.Proof.Gen.KernelIdeal.Regions
public import Idealize.ShloMosaic.Lib.ValueIdxCore
public import Idealize.ShloMosaic.Lib.Pipeline.Value

@[expose] public section
noncomputable section

namespace Cert.KernelIdeal.Hist
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F] [Named F]
local notation "𝕄" => MT nD τ sig Unit (Elt F) ℕ (UR sig nD τ) ℕ

/-- The term of one row of distances at one bin. -/
def term (o d : F .f32) : F .f32 :=
  FloatOps.exp2 (FloatOps.subf (FloatOps.ofBits FTy.f32 0#32) (FloatOps.mulf (FloatOps.subf d o) (FloatOps.subf d o)))

/-- What one trip leaves in the accumulator: two rows of distances added. -/
def tripVal (o : S104x256.Idx → F .f32) (d : S256x256.Idx → F .f32) (k : Fin 128) (a : S104x256.Idx → F .f32) : S104x256.Idx → F .f32 :=
  fun y => FloatOps.addf (a y) (FloatOps.addf
    (term (o y) (d (ix2 ⟨2 * k.val, by omega⟩ ⟨(y 1).val, Idealize.ShloMosaic.ValueIdx.idx2_lt1 y⟩)))
    (term (o y) (d (ix2 ⟨2 * k.val + 1, by omega⟩ ⟨(y 1).val, Idealize.ShloMosaic.ValueIdx.idx2_lt1 y⟩))))

theorem row_even : ∀ k : Fin 128, (Scalar.indexCast (Scalar.muli 2#32 (Scf.iv 0#32 1#32 k.val))).toNat = 2 * k.val := by decide
theorem row_odd : ∀ k : Fin 128, (Scalar.indexCast (Scalar.addi (Scalar.muli 2#32 (Scf.iv 0#32 1#32 k.val)) 1#32)).toNat = 2 * k.val + 1 := by decide

theorem row_load {sp : Space} (arg7 : Memref sig .tc sp S256x256 .f32) (X7 : BufTy.Contents (Elt F) arg7.view.ty) (n : ℕ) (hn : n < 256) (off : Fin 2 → ℕ) (h : off = ![n, 0])
   (inb : ∀ a, off a + S1x256.size a ≤ S256x256.size a) (h1 : S1x256.ShapeCasts S1x256) (h2 : S1x256.Broadcasts S8x256) (x : S8x256.Idx) :
   broadcastTo S8x256 (shapeCast S1x256 (View.readAt (Elt F) arg7.view (Rect.unit (s := S256x256) off S1x256.size inb).toLoadRect X7) h1) h2 x
     = arg7.view.read (Elt F) X7 (ix2 ⟨n, hn⟩ ⟨(x 1).val, Idealize.ShloMosaic.ValueIdx.idx2_lt1 x⟩) := by
  subst h
  refine (broadcastTo_apply _ _ _ (ix2 0 ⟨(x 1).val, Idealize.ShloMosaic.ValueIdx.idx2_lt1 x⟩) (fun a => by fin_cases a <;> rfl)).trans
    ((congrFun (shapeCast_self (s := S1x256) _ h1) _).trans ?_)
  rw [View.readAt_apply]
  congr 1
  funext a; fin_cases a <;> apply Fin.ext <;> simp [Rect.unit, ix2]

theorem blk_load {sp : Space} (arg : Memref sig .tc sp S104x256 .f32) (X : BufTy.Contents (Elt F) arg.view.ty) (n : ℕ)
   (inb : ∀ a, ![n,0] a + ![8,256] a ≤ S104x256.size a) (h1 : S8x256.ShapeCasts S8x256) (x : S8x256.Idx) :
   shapeCast S8x256 (View.readAt (Elt F) arg.view (Rect.unit (s := S104x256) ![n,0] ![8,256] inb).toLoadRect X) h1 x
     = arg.view.read (Elt F) X ((Rect.unit (s := S104x256) ![n,0] ![8,256] inb).emb x) := by
  exact congrFun (shapeCast_self (s := S8x256) _ h1) x

theorem trip_read (𝒱 : Variants) (c : Dev nD) (bd : Option 𝒱.V) (i : grid0.Coords) (arg1 : Memref sig .tc .smem S78 .i32) (harg1 : arg1.IsWhole) (arg2 : Memref sig .tc .smem S78 .i32) (harg2 : arg2.IsWhole) (arg3 : Memref sig .tc .vmem S256x3 .f32) (harg3 : arg3.IsWhole) (arg4 : Memref sig .tc .vmem S3x256 .f32) (harg4 : arg4.IsWhole) (arg5 : Memref sig .tc .vmem S104x256 .f32) (harg5 : arg5.IsWhole) (arg6 : Memref sig .tc .vmem S104x256 .f32) (harg6 : arg6.IsWhole) (arg7 : Memref sig .tc .vmem S256x256 .f32) (harg7 : arg7.IsWhole)
   (X5 : BufTy.Contents (Elt F) arg5.view.ty) (X7 : BufTy.Contents (Elt F) arg7.view.ty) (k : Fin k0_t1_loop.trips) (hk : k.val < 128) (f6 : BufTy.Contents (Elt F) arg6.view.ty) :
   arg6.view.read (Elt F) (arg6.view.writes (Elt F) f6 (tripL_k0_t1 (F := F) 𝒱 c bd i arg1 harg1 arg2 harg2 arg3 harg3 arg4 harg4 arg5 harg5 arg6 harg6 arg7 harg7 X5 X7 k f6))
     = tripVal (arg5.view.read (Elt F) X5) (arg7.view.read (Elt F) X7) ⟨k.val, hk⟩ (arg6.view.read (Elt F) f6) := by
  unfold tripL_k0_t1 trip_k0_t1
  dsimp only
  sl_unfold_words
  have he := row_even ⟨k.val, hk⟩
  have ho := row_odd ⟨k.val, hk⟩
  have blk : ∀ (n : ℕ) (inb : ∀ a, ![n,0] a + S8x256.size a ≤ S104x256.size a) (h1 : S8x256.ShapeCasts S8x256)
     (h3 : S1x256.ShapeCasts S1x256) (h2 : S1x256.Broadcasts S8x256)
     (off off' : Fin 2 → ℕ) (hoff : off = ![2*k.val,0]) (hoff' : off' = ![2*k.val+1,0])
     (i1 : ∀ a, off a + S1x256.size a ≤ S256x256.size a)  (i2 : ∀ a, off' a + S1x256.size a ≤ S256x256.size a) (x : S8x256.Idx),
      addf (shapeCast S8x256 (View.readAt (Elt F) arg6.view (Rect.unit (s := S104x256) ![n,0] S8x256.size inb).toLoadRect f6) h1)
       (addf (exp2 (subf (broadcast S8x256 (FloatOps.ofBits FTy.f32 0#32)) (mulf
          (subf (broadcastTo S8x256 (shapeCast S1x256 (View.readAt (Elt F) arg7.view (Rect.unit (s := S256x256) off S1x256.size i1).toLoadRect X7) h3) h2)
             (shapeCast S8x256 (View.readAt (Elt F) arg5.view (Rect.unit (s := S104x256) ![n,0] S8x256.size inb).toLoadRect X5) h1))
          (subf (broadcastTo S8x256 (shapeCast S1x256 (View.readAt (Elt F) arg7.view (Rect.unit (s := S256x256) off S1x256.size i1).toLoadRect X7) h3) h2)
             (shapeCast S8x256 (View.readAt (Elt F) arg5.view (Rect.unit (s := S104x256) ![n,0] S8x256.size inb).toLoadRect X5) h1)))))
         (exp2 (subf (broadcast S8x256 (FloatOps.ofBits FTy.f32 0#32)) (mulf
          (subf (broadcastTo S8x256 (shapeCast S1x256 (View.readAt (Elt F) arg7.view (Rect.unit (s := S256x256) off' S1x256.size i2).toLoadRect X7) h3) h2)
             (shapeCast S8x256 (View.readAt (Elt F) arg5.view (Rect.unit (s := S104x256) ![n,0] S8x256.size inb).toLoadRect X5) h1))
          (subf (broadcastTo S8x256 (shapeCast S1x256 (View.readAt (Elt F) arg7.view (Rect.unit (s := S256x256) off' S1x256.size i2).toLoadRect X7) h3) h2)
             (shapeCast S8x256 (View.readAt (Elt F) arg5.view (Rect.unit (s := S104x256) ![n,0] S8x256.size inb).toLoadRect X5) h1)))))) x
       = tripVal (arg5.view.read (Elt F) X5) (arg7.view.read (Elt F) X7) ⟨k.val, hk⟩ (arg6.view.read (Elt F) f6) ((Rect.unit (s := S104x256) ![n,0] S8x256.size inb).emb x) := by
    intro n inb h1 h3 h2 off off' hoff hoff' i1 i2 x
    have e1 : (((Rect.unit (s := S104x256) ![n,0] S8x256.size inb).emb x) 1).val = (x 1).val := by rw [Rect.emb_apply]; simp [Rect.unit]
    simp only [addf, subf, mulf, exp2, broadcast, row_load _ _ (2*k.val) (by omega) off hoff, row_load _ _ (2*k.val+1) (by omega) off' hoff', tripVal, term, e1]
    erw [blk_load arg6 f6 n inb h1 x, blk_load arg5 X5 n inb h1 x]
  have hE := fun (n:ℕ) => congrArg (fun m => ![m, n]) he
  have hO := fun (n:ℕ) => congrArg (fun m => ![m, n]) ho
  funext y
  refine View.read_writes_apply_of_pieces _ _ _ _ ?_ y (View.cover_of_tiled _ ![8,256] (by sl_kernel_rfl) y)
  repeat' (first | exact fun p hp => absurd hp List.not_mem_nil | refine List.forall_mem_cons.mpr ⟨fun x => blk _ _ shapeCasts_S8x256_S8x256 shapeCasts_S1x256_S1x256 broadcasts_S1x256_S8x256 _ _ (hE 0) (hO 0) _ _ x, ?_⟩)

/-- The trips before `n`, one after the other. -/
def loopVal (o : S104x256.Idx → F .f32) (d : S256x256.Idx → F .f32) : ℕ → (S104x256.Idx → F .f32) → S104x256.Idx → F .f32
  | 0, a => a
  | n + 1, a => if h : n < 128 then tripVal o d ⟨n, h⟩ (loopVal o d n a) else loopVal o d n a

theorem loop_read (𝒱 : Variants) (c : Dev nD) (bd : Option 𝒱.V) (i : grid0.Coords) (arg1 : Memref sig .tc .smem S78 .i32) (harg1 : arg1.IsWhole) (arg2 : Memref sig .tc .smem S78 .i32) (harg2 : arg2.IsWhole) (arg3 : Memref sig .tc .vmem S256x3 .f32) (harg3 : arg3.IsWhole) (arg4 : Memref sig .tc .vmem S3x256 .f32) (harg4 : arg4.IsWhole) (arg5 : Memref sig .tc .vmem S104x256 .f32) (harg5 : arg5.IsWhole) (arg6 : Memref sig .tc .vmem S104x256 .f32) (harg6 : arg6.IsWhole) (arg7 : Memref sig .tc .vmem S256x256 .f32) (harg7 : arg7.IsWhole)
   (X5 : BufTy.Contents (Elt F) arg5.view.ty) (X7 : BufTy.Contents (Elt F) arg7.view.ty) (G : BufTy.Contents (Elt F) arg6.view.ty) (n : ℕ) (hn : n ≤ 128) :
   arg6.view.read (Elt F) (arg6.view.writes (Elt F) G (pb_k0_t1 (F := F) 𝒱 c bd i arg1 harg1 arg2 harg2 arg3 harg3 arg4 harg4 arg5 harg5 arg6 harg6 arg7 harg7 X5 X7 G n))
     = loopVal (arg5.view.read (Elt F) X5) (arg7.view.read (Elt F) X7) n (arg6.view.read (Elt F) G) := by
  induction n with
  | zero => rfl
  | succ n ih =>
    have hn' : n < 128 := hn
    have ht : n < k0_t1_loop.trips := by have : k0_t1_loop.trips = 128 := by decide
                                         omega
    rw [pb_k0_t1_succ (F := F) 𝒱 c bd i arg1 harg1 arg2 harg2 arg3 harg3 arg4 harg4 arg5 harg5 arg6 harg6 arg7 harg7 X5 X7 G ⟨n, ht⟩, View.writes_append, trip_read (F := F) 𝒱 c bd i arg1 harg1 arg2 harg2 arg3 harg3 arg4 harg4 arg5 harg5 arg6 harg6 arg7 harg7 X5 X7 ⟨n, ht⟩ hn', ih (by omega), loopVal, dif_pos hn']

/-- A write over a whole buffer reads back as what was written. -/
theorem full_read {sp : Space} {m n : ℕ} (v : View sig .tc sp ⟨2, ![m, n]⟩ .f32) (f : v.ty.Contents (Elt F))
    (inb : ∀ a, ![0,0] a + ![m,n] a ≤ (⟨2, ![m, n]⟩ : Shape).size a) (p : (⟨2, ![m, n]⟩ : Shape).Idx → F .f32) :
    v.read (Elt F) (v.writes (Elt F) f [⟨Rect.unit (s := ⟨2, ![m, n]⟩) ![0,0] ![m,n] inb, p⟩]) = p := by
  have hz : ∀ x : (⟨2, ![m, n]⟩ : Shape).Idx, (Rect.unit (s := ⟨2, ![m, n]⟩) ![0,0] ![m,n] inb).emb x = x := fun x => by
    funext a; apply Fin.ext; rw [Rect.emb_apply]; fin_cases a <;> simp [Rect.unit]
  funext y
  have h := View.read_writes_cons_emb v f (Rect.unit (s := ⟨2, ![m, n]⟩) ![0,0] ![m,n] inb) p [] y
  rwa [hz y] at h

/-- The squared distances' first two axes of one tile. -/
def v50Val (x3 : S256x3.Idx → F .f32) (x4 : S3x256.Idx → F .f32) : FVec F S256x256 .f32 :=
  k0_pay4 (View.ld x3 (Rect.unit (s := S256x3) ![0, 0] S256x1.size inb_S256x3_S256x1_0_0)) (View.ld x4 (Rect.unit (s := S3x256) ![0, 0] S1x256.size inb_S3x256_S1x256_0_0))
    (View.ld x3 (Rect.unit (s := S256x3) ![0, 1] S256x1.size inb_S256x3_S256x1_0_1)) (View.ld x4 (Rect.unit (s := S3x256) ![1, 0] S1x256.size inb_S3x256_S1x256_1_0))
/-- The third axis' difference of one tile. -/
def v63Val (x3 : S256x3.Idx → F .f32) (x4 : S3x256.Idx → F .f32) : FVec F S256x256 .f32 :=
  k0_pay5 (View.ld x3 (Rect.unit (s := S256x3) ![0, 2] S256x1.size inb_S256x3_S256x1_0_2)) (View.ld x4 (Rect.unit (s := S3x256) ![2, 0] S1x256.size inb_S3x256_S1x256_2_0))

/-- One tile's scaled distances, from the two table words and the two blocks of atoms. -/
def dscVal (w1 w2 : BitVec 32) (x3 : S256x3.Idx → F .f32) (x4 : S3x256.Idx → F .f32) : S256x256.Idx → F .f32 :=
  if Scalar.cmpi .slt (Scalar.muli w2 256#32) (Scalar.muli (Scalar.addi w1 1#32) 256#32) = 1#1
  then k0_pay3 w1 w2 (v50Val x3 x4) (v63Val x3 x4) else k0_pay2 (v50Val x3 x4) (v63Val x3 x4)

/-- What a grid point leaves in the accumulator. -/
def stepVal (i : grid0.Coords) (w1 w2 : BitVec 32) (x3 : S256x3.Idx → F .f32) (x4 : S3x256.Idx → F .f32) (x5 a : S104x256.Idx → F .f32) : S104x256.Idx → F .f32 :=
  loopVal x5 (dscVal w1 w2 x3 x4) 128 (if (i 0).val = 0 then k0_pay1 else a)

/-- One grid point's run, from the buffers it is given to the ones it leaves. -/
def histRun (𝒱 : Variants) (c : Dev nD) (bd : Option 𝒱.V) (i : grid0.Coords) (arg1 : Memref sig .tc .smem S78 .i32) (harg1 : arg1.IsWhole) (arg2 : Memref sig .tc .smem S78 .i32) (harg2 : arg2.IsWhole) (arg3 : Memref sig .tc .vmem S256x3 .f32) (harg3 : arg3.IsWhole) (arg4 : Memref sig .tc .vmem S3x256 .f32) (harg4 : arg4.IsWhole) (arg5 : Memref sig .tc .vmem S104x256 .f32) (harg5 : arg5.IsWhole) (arg6 : Memref sig .tc .vmem S104x256 .f32) (harg6 : arg6.IsWhole) (arg7 : Memref sig .tc .vmem S256x256 .f32) (harg7 : arg7.IsWhole)
   (T1 : BufTy.Contents (Elt F) arg1.view.ty) (T2 : BufTy.Contents (Elt F) arg2.view.ty)
   (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) :
   { W : BufTy.Contents (Elt F) arg6.view.ty × BufTy.Contents (Elt F) arg7.view.ty //
     ∀ (E : Set ℕ) (K : PUnit → sProp 𝕄),
     iprop((arg1.view.loc (c : Thread nD τ) ↦{fullShare} T1) ∗ (arg2.view.loc (c : Thread nD τ) ↦{fullShare} T2)
       ∗ (arg3.view.loc (c : Thread nD τ) ↦[arg3.view.set]{fullShare} X3) ∗ (arg4.view.loc (c : Thread nD τ) ↦[arg4.view.set]{fullShare} X4)
       ∗ (arg5.view.loc (c : Thread nD τ) ↦[arg5.view.set]{fullShare} X5)
       ∗ (arg6.view.loc (c : Thread nD τ) ↦[arg6.view.set]{fullShare} f6) ∗ (arg7.view.loc (c : Thread nD τ) ↦[arg7.view.set]{fullShare} f7)
       ∗ (((arg1.view.loc (c : Thread nD τ) ↦{fullShare} T1) ∗ (arg2.view.loc (c : Thread nD τ) ↦{fullShare} T2)
       ∗ (arg3.view.loc (c : Thread nD τ) ↦[arg3.view.set]{fullShare} X3) ∗ (arg4.view.loc (c : Thread nD τ) ↦[arg4.view.set]{fullShare} X4)
       ∗ (arg5.view.loc (c : Thread nD τ) ↦[arg5.view.set]{fullShare} X5)
       ∗ (arg6.view.loc (c : Thread nD τ) ↦[arg6.view.set]{fullShare} W.1) ∗ (arg7.view.loc (c : Thread nD τ) ↦[arg7.view.set]{fullShare} W.2)) -∗ K ⟨⟩))
      ⊢ wp frame (wpE (defs₀ (F := F)) 𝒱 (c : Thread nD τ) bd) E (cc0__hist_kernel (F := F) i arg1 harg1 arg2 harg2 arg3 harg3 arg4 harg4 arg5 harg5 arg6 harg6 arg7 harg7) K } := by
  refine ⟨(?_, ?_), fun E K => ?run⟩
  case run =>
    rw [cc0__hist_kernel_eq_skeleton]
    iintro ⟨H1, H2, H3, H4, H5, H6, H7, HK⟩
    sl_exec
    sl_step
    iapply HK
    isplitl [H1]; · iexact H1
    isplitl [H2]; · iexact H2
    isplitl [H3]; · iexact H3
    isplitl [H4]; · iexact H4
    isplitl [H5]; · iexact H5
    isplitl [H6]; · iexact H6
    iexact H7

theorem first_iff : ∀ n : Fin 78, (Scalar.cmpi .ne (Scalar.extui (Scalar.cmpi .eq (BitVec.ofNat 32 n.val) 0#32) : BitVec 32) 0#32 = 1#1) ↔ n.val = 0 := by decide

theorem ne_ext (b : BitVec 1) : Scalar.cmpi .ne (Scalar.extui b : BitVec 32) 0#32 = b := by revert b; decide

theorem sge_slt (a b : BitVec 32) : Scalar.cmpi .sge a b = 1#1 ↔ ¬ Scalar.cmpi .slt a b = 1#1 := by
  unfold Scalar.cmpi IntOp.cmpi
  simp only
  rw [BitVec.sle_eq_not_slt]
  cases BitVec.slt a b <;> decide

theorem dsc_read (𝒱 : Variants) (c : Dev nD) (bd : Option 𝒱.V) (i : grid0.Coords) (arg1 : Memref sig .tc .smem S78 .i32) (harg1 : arg1.IsWhole) (arg2 : Memref sig .tc .smem S78 .i32) (harg2 : arg2.IsWhole) (arg3 : Memref sig .tc .vmem S256x3 .f32) (harg3 : arg3.IsWhole) (arg4 : Memref sig .tc .vmem S3x256 .f32) (harg4 : arg4.IsWhole) (arg5 : Memref sig .tc .vmem S104x256 .f32) (harg5 : arg5.IsWhole) (arg6 : Memref sig .tc .vmem S104x256 .f32) (harg6 : arg6.IsWhole) (arg7 : Memref sig .tc .vmem S256x256 .f32) (harg7 : arg7.IsWhole) (T1 : BufTy.Contents (Elt F) arg1.view.ty) (T2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) :
    arg7.view.read (Elt F) (histRun (F := F) 𝒱 c bd i arg1 harg1 arg2 harg2 arg3 harg3 arg4 harg4 arg5 harg5 arg6 harg6 arg7 harg7 T1 T2 X3 X4 X5 f6 f7).1.2
      = dscVal (histRun.sl.r i arg1 T1) (histRun.sl.r_1 i arg2 T2) (arg3.view.read (Elt F) X3) (arg4.view.read (Elt F) X4) := by
  unfold histRun
  dsimp only
  have e12 : histRun.sl.v12 i arg1 arg2 T1 T2 = 1#1 ↔ ¬ histRun.sl.v18 i arg1 arg2 T1 T2 = 1#1 := by
    unfold histRun.sl.v12 histRun.sl.v18 histRun.sl.v11 histRun.sl.v17
    rw [ne_ext, ne_ext]
    exact sge_slt _ _
  have e18 : histRun.sl.v18 i arg1 arg2 T1 T2 = 1#1 ↔ Scalar.cmpi .slt (Scalar.muli (histRun.sl.r_1 i arg2 T2) 256#32) (Scalar.muli (Scalar.addi (histRun.sl.r i arg1 T1) 1#32) 256#32) = 1#1 := by
    unfold histRun.sl.v18 histRun.sl.v17
    rw [ne_ext]
    exact .rfl
  unfold dscVal
  by_cases h : histRun.sl.v18 i arg1 arg2 T1 T2 = 1#1
  · rw [dif_pos h, if_pos (e18.mp h), full_read]
    rfl
  · rw [dif_neg h, if_neg (fun h' => h (e18.mpr h')), dif_pos (e12.mpr h), full_read]
    rfl

theorem hist_read (𝒱 : Variants) (c : Dev nD) (bd : Option 𝒱.V) (i : grid0.Coords) (arg1 : Memref sig .tc .smem S78 .i32) (harg1 : arg1.IsWhole) (arg2 : Memref sig .tc .smem S78 .i32) (harg2 : arg2.IsWhole) (arg3 : Memref sig .tc .vmem S256x3 .f32) (harg3 : arg3.IsWhole) (arg4 : Memref sig .tc .vmem S3x256 .f32) (harg4 : arg4.IsWhole) (arg5 : Memref sig .tc .vmem S104x256 .f32) (harg5 : arg5.IsWhole) (arg6 : Memref sig .tc .vmem S104x256 .f32) (harg6 : arg6.IsWhole) (arg7 : Memref sig .tc .vmem S256x256 .f32) (harg7 : arg7.IsWhole) (T1 : BufTy.Contents (Elt F) arg1.view.ty) (T2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) :
    arg6.view.read (Elt F) (histRun (F := F) 𝒱 c bd i arg1 harg1 arg2 harg2 arg3 harg3 arg4 harg4 arg5 harg5 arg6 harg6 arg7 harg7 T1 T2 X3 X4 X5 f6 f7).1.1
      = stepVal i (histRun.sl.r i arg1 T1) (histRun.sl.r_1 i arg2 T2) (arg3.view.read (Elt F) X3) (arg4.view.read (Elt F) X4)
         (arg5.view.read (Elt F) X5) (arg6.view.read (Elt F) f6) := by
  have hd := dsc_read (F := F) 𝒱 c bd i arg1 harg1 arg2 harg2 arg3 harg3 arg4 harg4 arg5 harg5 arg6 harg6 arg7 harg7 T1 T2 X3 X4 X5 f6 f7
  unfold histRun at hd ⊢
  dsimp only at hd ⊢
  rw [show Scf.trips 0#32 (Scalar.addi 0#32 128#32) 1#32 = 128 from by decide,
    loop_read (F := F) 𝒱 c bd i arg1 harg1 arg2 harg2 arg3 harg3 arg4 harg4 arg5 harg5 arg6 harg6 arg7 harg7 X5 _ _ 128 le_rfl, hd]
  unfold stepVal
  congr 1
  by_cases h : (i 0).val = 0
  · rw [if_pos h]
    have h6 : histRun.sl.v6 i = 1#1 := (first_iff (i 0)).mpr h
    rw [dif_pos h6, full_read]
  · rw [if_neg h]
    have h6 : ¬ histRun.sl.v6 i = 1#1 := fun h' => h ((first_iff (i 0)).mp h')
    rw [dif_neg h6]
end Cert.KernelIdeal.Hist
end
-- ==== Proof.HistRegion.lean ====
/- The pass over the tiles as a pipeline: what each window holds at each grid point (`acc` for the accumulated
   histogram), and that the body takes every point to the next. -/
module

public import proofs.«01_k».proof.Proof.HistRun
public import Idealize.ShloMosaic.Lib.Pipeline.RegionArraysTS
public import Idealize.ShloMosaic.Lib.Pipeline.RegionArraysS

@[expose] public section

noncomputable section

namespace Cert.KernelIdeal.Hist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F] [Named F]

local notation "𝕄" => MT nD τ sig Unit (Elt F) ℕ (UR sig nD τ) ℕ

/-- The body at one point, its windows given by what they hold. -/
theorem hist_owns (𝒱 : Variants) (c : Dev nD) (bd : Option 𝒱.V) (i : grid0.Coords) (arg1 : Memref sig .tc .smem S78 .i32) (harg1 : arg1.IsWhole) (arg2 : Memref sig .tc .smem S78 .i32) (harg2 : arg2.IsWhole) (arg3 : Memref sig .tc .vmem S256x3 .f32) (harg3 : arg3.IsWhole) (arg4 : Memref sig .tc .vmem S3x256 .f32) (harg4 : arg4.IsWhole) (arg5 : Memref sig .tc .vmem S104x256 .f32) (harg5 : arg5.IsWhole) (arg6 : Memref sig .tc .vmem S104x256 .f32) (harg6 : arg6.IsWhole) (arg7 : Memref sig .tc .vmem S256x256 .f32) (harg7 : arg7.IsWhole)
    (T1 : BufTy.Contents (Elt F) arg1.view.ty) (T2 : BufTy.Contents (Elt F) arg2.view.ty)
    (Y3 : S256x3.Idx → F .f32) (Y4 : S3x256.Idx → F .f32) (Y5 Y6 : S104x256.Idx → F .f32) (f7 : BufTy.Contents (Elt F) arg7.view.ty)
    (E : Set ℕ) (K : PUnit → sProp 𝕄) :
    iprop((arg1.view.loc (c : Thread nD τ) ↦{fullShare} T1) ∗ (arg2.view.loc (c : Thread nD τ) ↦{fullShare} T2)
       ∗ owns (c : Thread nD τ) arg3 fullShare Y3 ∗ owns (c : Thread nD τ) arg4 fullShare Y4 ∗ owns (c : Thread nD τ) arg5 fullShare Y5
       ∗ owns (c : Thread nD τ) arg6 fullShare Y6 ∗ (arg7.view.loc (c : Thread nD τ) ↦[arg7.view.set]{fullShare} f7)
       ∗ (((arg1.view.loc (c : Thread nD τ) ↦{fullShare} T1) ∗ (arg2.view.loc (c : Thread nD τ) ↦{fullShare} T2)
       ∗ owns (c : Thread nD τ) arg3 fullShare Y3 ∗ owns (c : Thread nD τ) arg4 fullShare Y4 ∗ owns (c : Thread nD τ) arg5 fullShare Y5
       ∗ owns (c : Thread nD τ) arg6 fullShare (stepVal i (histRun.sl.r i arg1 T1) (histRun.sl.r_1 i arg2 T2) Y3 Y4 Y5 Y6)
       ∗ ∃ f7, (arg7.view.loc (c : Thread nD τ) ↦[arg7.view.set]{fullShare} f7)) -∗ K ⟨⟩))
      ⊢ wp frame (wpE (defs₀ (F := F)) 𝒱 (c : Thread nD τ) bd) E (cc0__hist_kernel (F := F) i arg1 harg1 arg2 harg2 arg3 harg3 arg4 harg4 arg5 harg5 arg6 harg6 arg7 harg7) K := by
  unfold owns
  iintro ⟨H1, H2, ⟨%X3, %h3, H3⟩, ⟨%X4, %h4, H4⟩, ⟨%X5, %h5, H5⟩, ⟨%f6, %h6, H6⟩, H7, HK⟩
  iapply (histRun (F := F) 𝒱 c bd i arg1 harg1 arg2 harg2 arg3 harg3 arg4 harg4 arg5 harg5 arg6 harg6 arg7 harg7 T1 T2 X3 X4 X5 f6 f7).2 E K
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply HK
  isplitl [H1]; · iexact H1
  isplitl [H2]; · iexact H2
  isplitl [H3]
  · iexists _; isplitr; swap; (· iexact H3); ipureintro; exact h3
  isplitl [H4]
  · iexists _; isplitr; swap; (· iexact H4); ipureintro; exact h4
  isplitl [H5]
  · iexists _; isplitr; swap; (· iexact H5); ipureintro; exact h5
  isplitl [H6]
  · iexists _; isplitr; swap; (· iexact H6); ipureintro; rw [hist_read, h3, h4, h5, h6]
  iexists _; iexact H7

/-- What the accumulated histogram was does not matter at the first point. -/
theorem stepVal_first (i : grid0.Coords) (h : (i 0).val = 0) (w1 w2 : BitVec 32) (x3 : S256x3.Idx → F .f32) (x4 : S3x256.Idx → F .f32) (x5 a a' : S104x256.Idx → F .f32) :
    stepVal i w1 w2 x3 x4 x5 a = stepVal i w1 w2 x3 x4 x5 a' := by
  unfold stepVal
  rw [if_pos h, if_pos h]

variable (a : (pcfg0 (F := F)).Adm) (c : Dev nD) (V : Valuation τ sig (Elt F))

/-- The arrays of the windows as the pass finds them. -/
abbrev A0 (w : Fin (cfg0 a).W) : Buf (Elt F) (((cfg0 a).win w).arr.view.loc (c.tc : Thread nD τ)) := V (Proc.devRef .tc (Pipeline.arrRef (cfg0 a).spec w))

/-- What the tables say of point `t`. -/
abbrev tab1 (i : grid0.Coords) : BitVec 32 := histRun.sl.r (F := F) i (Memref.whole main_c) (a.1 0)
abbrev tab2 (i : grid0.Coords) : BitVec 32 := histRun.sl.r_1 (F := F) i (Memref.whole main_c_0) (a.1 1)

/-- The accumulated histogram after point `n`. -/
def acc : (n : ℕ) → n < grid0.N → S104x256.Idx → F .f32
  | 0, h => stepVal (grid0.coords ⟨0, h⟩) (tab1 a (grid0.coords ⟨0, h⟩)) (tab2 a (grid0.coords ⟨0, h⟩))
      (Pipeline.heldIn (cfg0 a) (A0 a c V) 0 0 h) (Pipeline.heldIn (cfg0 a) (A0 a c V) 1 0 h) (Pipeline.heldIn (cfg0 a) (A0 a c V) 2 0 h) k0_pay1
  | n + 1, h => stepVal (grid0.coords ⟨n + 1, h⟩) (tab1 a (grid0.coords ⟨n + 1, h⟩)) (tab2 a (grid0.coords ⟨n + 1, h⟩))
      (Pipeline.heldIn (cfg0 a) (A0 a c V) 0 (n + 1) h) (Pipeline.heldIn (cfg0 a) (A0 a c V) 1 (n + 1) h) (Pipeline.heldIn (cfg0 a) (A0 a c V) 2 (n + 1) h)
      (acc n (Nat.lt_of_succ_lt h))

/-- What each window's buffer holds after point `t`. -/
def after0 : (w : Fin (cfg0 a).W) → (t : Fin (cfg0 a).N) → ((cfg0 a).win w).block.Idx → Elt F ((cfg0 a).win w).elt
  | ⟨0, _⟩, t => Pipeline.heldIn (cfg0 a) (A0 a c V) 0 t.val t.isLt
  | ⟨1, _⟩, t => Pipeline.heldIn (cfg0 a) (A0 a c V) 1 t.val t.isLt
  | ⟨2, _⟩, t => Pipeline.heldIn (cfg0 a) (A0 a c V) 2 t.val t.isLt
  | ⟨3, _⟩, t => acc a c V t.val t.isLt
  | ⟨_ + 4, h⟩, _ => absurd h (Nat.not_lt.2 (Nat.le_add_left _ _))

/-- The proof data of the pass. -/
def dat0 : Pipeline.Dat τ (Elt F) Unit ℕ (UR sig nD τ) ℕ (cfg0 a) c where
  A := A0 a c V
  after := after0 a c V
  Φ := fun _ => iprop(Pipeline.scopedRest (cfg0 a).spec c ∗ Pipeline.prefHeld pre0 c (fun _ => fullShare) a.1)
  q := fun _ => fullShare
  owed := fun _ => 0

theorem coords0 : ∀ t : Fin grid0.N, (grid0.coords t 0).val = t.val := by decide +kernel

theorem before_in (w : Fin (cfg0 a).W) (hw : ((cfg0 a).win w).isOut = false)
    (hafter : ∀ t, (dat0 a c V).after w t = Pipeline.heldIn (cfg0 a) (A0 a c V) w t.val t.isLt) (t : Fin (cfg0 a).N) (d) :
    (dat0 a c V).before w t d = Pipeline.heldIn (cfg0 a) (A0 a c V) w t.val t.isLt :=
  Pipeline.Dat.before_eq_heldIn (dat := dat0 a c V) w hw (fun _ => rfl) (fun _ _ => rfl) hafter t d

/-- What the accumulator's buffer holds after a point is a step from what it held before it. -/
theorem acc_step (t : Fin (cfg0 a).N) (d) :
    acc a c V t.val t.isLt = stepVal (grid0.coords t) (tab1 a (grid0.coords t)) (tab2 a (grid0.coords t))
      (Pipeline.heldIn (cfg0 a) (A0 a c V) 0 t.val t.isLt) (Pipeline.heldIn (cfg0 a) (A0 a c V) 1 t.val t.isLt) (Pipeline.heldIn (cfg0 a) (A0 a c V) 2 t.val t.isLt)
      ((dat0 a c V).before 3 t d) := by
  obtain ⟨n, h⟩ := t
  cases n with
  | zero => exact stepVal_first _ (coords0 ⟨0, h⟩) _ _ _ _ _ _ _
  | succ n =>
    rw [Pipeline.Dat.before_out_kept (dat := dat0 a c V) 3 rfl ⟨n + 1, h⟩ (Nat.succ_ne_zero n) ?_ (fun _ => rfl) (fun _ _ => rfl)]
    · rfl
    · refine Bool.eq_false_iff.mpr fun hf => ?_
      have := (Pipeline.Window.flush_const ((cfg0 a).win 3) rfl (fun _ _ => rfl) N_0 (m := 77) rfl _).mp hf
      have h' : n + 1 < 78 := h
      simp only [Nat.add_sub_cancel] at this
      omega

/-- The pass's invariant: the scratch at anything, the tables at their contents. -/
abbrev inv0 : sProp 𝕄 := iprop(Pipeline.scopedRest (cfg0 a).spec c ∗ Pipeline.prefHeld pre0 c (fun _ => fullShare) a.1)

/-- The body takes every point to the next. -/
theorem body0 (ι : Unit) (𝒱 : Variants) : Pipeline.BodyObligation (dat0 a c V) defs₀ 𝒱 ι Set.univ := by
  intro t
  rw [bigSep_W0, bigSep_W0]
  show iprop(inv0 a c ∗ (dat0 a c V).owesAt ι t.castSucc
      ∗ (∃ d, owns (c : Thread nD τ) (((cfg0 a).win 0).stage ((cfg0 a).slots t 0)) fullShare ((dat0 a c V).before 0 t d))
      ∗ (∃ d, owns (c : Thread nD τ) (((cfg0 a).win 1).stage ((cfg0 a).slots t 1)) fullShare ((dat0 a c V).before 1 t d))
      ∗ (∃ d, owns (c : Thread nD τ) (((cfg0 a).win 2).stage ((cfg0 a).slots t 2)) fullShare ((dat0 a c V).before 2 t d))
      ∗ (∃ d, owns (c : Thread nD τ) (((cfg0 a).win 3).stage ((cfg0 a).slots t 3)) fullShare ((dat0 a c V).before 3 t d)))
    ⊢ wp frame (wpE (defs₀ (F := F)) 𝒱 (c : Thread nD τ) none) Set.univ (defs₀ Proc.tc (cfg0 a).body ((cfg0 a).bodyArgs t ((cfg0 a).slots t))) fun _ =>
      iprop(inv0 a c ∗ (dat0 a c V).owesAt ι t.succ
      ∗ owns (c : Thread nD τ) (((cfg0 a).win 0).stage ((cfg0 a).slots t 0)) fullShare ((dat0 a c V).after 0 t)
      ∗ owns (c : Thread nD τ) (((cfg0 a).win 1).stage ((cfg0 a).slots t 1)) fullShare ((dat0 a c V).after 1 t)
      ∗ owns (c : Thread nD τ) (((cfg0 a).win 2).stage ((cfg0 a).slots t 2)) fullShare ((dat0 a c V).after 2 t)
      ∗ owns (c : Thread nD τ) (((cfg0 a).win 3).stage ((cfg0 a).slots t 3)) fullShare ((dat0 a c V).after 3 t))
  rw [show inv0 a c = iprop(Pipeline.scopedRest spec0 c ∗ Pipeline.prefHeld pre0 c (fun _ => fullShare) a.1) from rfl, scopedRest0_eq c]
  unfold Pipeline.prefHeld
  rw [show ∀ Φ : Fin pre0.K → sProp 𝕄, bigSep Finset.univ Φ = iprop(Φ (0 : Fin 2) ∗ Φ (1 : Fin 2)) from fun Φ => bigSep_univ_two Φ]
  iintro ⟨⟨⟨⟨%f7, H7⟩, HR⟩, ⟨H1, H2⟩⟩, HO, ⟨%d0, W0⟩, ⟨%d1, W1⟩, ⟨%d2, W2⟩, ⟨%d3, W3⟩⟩
  rw [before_in a c V 0 rfl (fun _ => rfl), before_in a c V 1 rfl (fun _ => rfl), before_in a c V 2 rfl (fun _ => rfl)]
  iapply hist_owns (F := F) 𝒱 c none (grid0.coords t) (Memref.whole main_c) (Memref.isWhole_whole _) (Memref.whole main_c_0) (Memref.isWhole_whole _)
    (((cfg0 a).win 0).stage ((cfg0 a).slots t 0)) _ (((cfg0 a).win 1).stage ((cfg0 a).slots t 1)) _ (((cfg0 a).win 2).stage ((cfg0 a).slots t 2)) _
    (((cfg0 a).win 3).stage ((cfg0 a).slots t 3)) _ (Memref.whole cc0_scratch0) (Memref.isWhole_whole _) (a.1 0) (a.1 1) _ _ _ _ f7
  isplitl [H1]; · iexact H1
  isplitl [H2]; · iexact H2
  isplitl [W0]; · iexact W0
  isplitl [W1]; · iexact W1
  isplitl [W2]; · iexact W2
  isplitl [W3]; · iexact W3
  isplitl [H7]; · simp only [Memref.view_whole, View.set_whole]; iexact H7
  iintro ⟨H1, H2, W0, W1, W2, W3, ⟨%f7, H7⟩⟩
  isplitl [HR H1 H2 H7]
  · isplitl [HR H7]
    · isplitl [H7]
      · iexists f7; simp only [Memref.view_whole, View.set_whole]; iexact H7
      iexact HR
    isplitl [H1]; · iexact H1
    iexact H2
  isplitl [HO]; · iexact HO
  isplitl [W0]; · iexact W0
  isplitl [W1]; · iexact W1
  isplitl [W2]; · iexact W2
  rw [show (dat0 a c V).after 3 t = acc a c V t.val t.isLt from rfl, acc_step a c V t d3]
  iexact W3

end Cert.KernelIdeal.Hist
end
-- ==== Proof.FinRun.lean ====
/- The tables the tiles are read off, and the closing division as a pipeline of one point. -/
module

public import proofs.«01_k».proof.Proof.HistRegion

@[expose] public section

noncomputable section

namespace Cert.KernelIdeal.Hist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F] [Named F]

local notation "𝕄" => MT nD τ sig Unit (Elt F) ℕ (UR sig nD τ) ℕ

/-- The two tables: tile rows and tile columns. -/
def tabs : pre0.Contents (Elt F)
  | ⟨0, _⟩ => fun i => lit0 (S78.rowMajor i)
  | ⟨1, _⟩ => fun i => lit1 (S78.rowMajor i)
  | ⟨_ + 2, h⟩ => absurd h (Nat.not_lt.2 (Nat.le_add_left _ _))

theorem row_at_val : ∀ i : grid0.Coords, (S78.rowMajor ((Rect.unit (s := S78) (k0_off1 i) S1.size (k0_off1_inb i)).idx (Shape.Idx.first (show 0 < S1.numel from Nat.lt_of_lt_of_eq Nat.one_pos numel1_S1.symm)))).val = (i 0).val := by
  decide +kernel

theorem row_at (i : grid0.Coords) : S78.rowMajor ((Rect.unit (s := S78) (k0_off1 i) S1.size (k0_off1_inb i)).idx (Shape.Idx.first (show 0 < S1.numel from Nat.lt_of_lt_of_eq Nat.one_pos numel1_S1.symm))) = i 0 :=
  Fin.ext (row_at_val i)

theorem lit0_lt : ∀ n : Fin 78, (lit0 n).toNat < 12 := by decide
theorem lit1_lt : ∀ n : Fin 78, (lit1 n).toNat < 12 := by decide

theorem transform0_eq (i : grid0.Coords) : cc0_transform_0 k0_off1_inb numel1_S1 (tabs (F := F)) i = ![(lit0 (i 0)).toNat, 0] :=
  congrArg (fun n => ![(lit0 n).toNat, 0]) (row_at i)

theorem transform1_eq (i : grid0.Coords) : cc0_transform_1 k0_off1_inb numel1_S1 (tabs (F := F)) i = ![0, (lit1 (i 0)).toNat] :=
  congrArg (fun n => ![0, (lit1 n).toNat]) (row_at i)

theorem tabs_ok : ok0 (tabs (F := F)) := by
  refine ⟨fun i => ⟨fun a => ?_, .inl rfl⟩, fun i => ⟨fun a => ?_, .inl rfl⟩⟩
  · rw [transform0_eq]
    have := lit0_lt (i 0)
    fin_cases a
    · show ((lit0 (i 0)).toNat + 1) * 256 ≤ 3072; omega
    · show (0 + 1) * 3 ≤ 3; omega
  · rw [transform1_eq]
    have := lit1_lt (i 0)
    fin_cases a
    · show (0 + 1) * 3 ≤ 3; omega
    · show ((lit1 (i 0)).toNat + 1) * 256 ≤ 3072; omega

def a0 : (pcfg0 (F := F)).Adm := ⟨tabs, tabs_ok⟩

/-- The two pipelines' tables: the second has none. -/
def adm : (p : Fin 2) → (pcfgs (F := F) p).Adm
  | ⟨0, _⟩ => a0
  | ⟨1, _⟩ => cfg1.toPCfg_adm
  | ⟨_ + 2, h⟩ => absurd h (Nat.not_lt.2 (Nat.le_add_left _ _))

/-! ## The closing division -/

/-- The rows of the histogram that are bins. -/
def rows100 (x : S104x256.Idx → F .f32) : S100x256.Idx → F .f32  := View.ld (Val := Elt F) (e' := .f32) x (Rect.unit (s := S104x256) ![0, 0] S100x256.size inb_S104x256_S100x256_0_0)

def cntVal (x : S104x256.Idx → F .f32) : S1x100.Idx → F .f32 := k1_pay1 (rows100 x)
def rdfVal (x : S104x256.Idx → F .f32) (y : S1x100.Idx → F .f32) : S1x100.Idx → F .f32 := k1_pay2 (rows100 x) y

theorem row_ld (x : S1x100.Idx → F .f32) : View.ld (Val := Elt F) (e' := .f32) x (Rect.unit (s := S1x100) ![0, 0] S1x100.size inb_S1x100_S1x100_0_0) = x := by
  funext y
  show x _ = x y
  congr 1
  funext d
  fin_cases d <;> exact Fin.ext (by simp [Rect.emb, Rect.unit])

/-- The closing body's run, from the buffers it is given to the ones it leaves. -/
def finRun (𝒱 : Variants) (c : Dev nD) (bd : Option 𝒱.V) (arg0 : Memref sig .tc .vmem S104x256 .f32) (harg0 : arg0.IsWhole) (arg1 : Memref sig .tc .vmem S1x100 .f32) (harg1 : arg1.IsWhole) (arg2 : Memref sig .tc .vmem S1x100 .f32) (harg2 : arg2.IsWhole) (arg3 : Memref sig .tc .vmem S1x100 .f32) (harg3 : arg3.IsWhole)
   (X0 : BufTy.Contents (Elt F) arg0.view.ty) (X1 : BufTy.Contents (Elt F) arg1.view.ty) (f2 : BufTy.Contents (Elt F) arg2.view.ty) (f3 : BufTy.Contents (Elt F) arg3.view.ty) :
   { W : BufTy.Contents (Elt F) arg2.view.ty × BufTy.Contents (Elt F) arg3.view.ty //
     ∀ (E : Set ℕ) (K : PUnit → sProp 𝕄),
     iprop((arg0.view.loc (c : Thread nD τ) ↦[arg0.view.set]{fullShare} X0) ∗ (arg1.view.loc (c : Thread nD τ) ↦[arg1.view.set]{fullShare} X1)
       ∗ (arg2.view.loc (c : Thread nD τ) ↦[arg2.view.set]{fullShare} f2) ∗ (arg3.view.loc (c : Thread nD τ) ↦[arg3.view.set]{fullShare} f3)
       ∗ (((arg0.view.loc (c : Thread nD τ) ↦[arg0.view.set]{fullShare} X0) ∗ (arg1.view.loc (c : Thread nD τ) ↦[arg1.view.set]{fullShare} X1)
       ∗ (arg2.view.loc (c : Thread nD τ) ↦[arg2.view.set]{fullShare} W.1) ∗ (arg3.view.loc (c : Thread nD τ) ↦[arg3.view.set]{fullShare} W.2)) -∗ K ⟨⟩))
      ⊢ wp frame (wpE (defs₀ (F := F)) 𝒱 (c : Thread nD τ) bd) E (cc1__fin_kernel (F := F) arg0 harg0 arg1 harg1 arg2 harg2 arg3 harg3) K } := by
  refine ⟨(?_, ?_), fun E K => ?run⟩
  case run =>
    rw [cc1__fin_kernel_eq_skeleton]
    iintro ⟨H0, H1, H2, H3, HK⟩
    sl_exec
    sl_step
    iapply HK
    isplitl [H0]; · iexact H0
    isplitl [H1]; · iexact H1
    isplitl [H2]; · iexact H2
    iexact H3

/-- The closing body, its windows given by what they hold. -/
theorem fin_owns (𝒱 : Variants) (c : Dev nD) (bd : Option 𝒱.V) (arg0 : Memref sig .tc .vmem S104x256 .f32) (harg0 : arg0.IsWhole) (arg1 : Memref sig .tc .vmem S1x100 .f32) (harg1 : arg1.IsWhole) (arg2 : Memref sig .tc .vmem S1x100 .f32) (harg2 : arg2.IsWhole) (arg3 : Memref sig .tc .vmem S1x100 .f32) (harg3 : arg3.IsWhole)
    (Y0 : S104x256.Idx → F .f32) (Y1 Y2 Y3 : S1x100.Idx → F .f32) (E : Set ℕ) (K : PUnit → sProp 𝕄) :
    iprop(owns (c : Thread nD τ) arg0 fullShare Y0 ∗ owns (c : Thread nD τ) arg1 fullShare Y1 ∗ owns (c : Thread nD τ) arg2 fullShare Y2 ∗ owns (c : Thread nD τ) arg3 fullShare Y3
       ∗ ((owns (c : Thread nD τ) arg0 fullShare Y0 ∗ owns (c : Thread nD τ) arg1 fullShare Y1 ∗ owns (c : Thread nD τ) arg2 fullShare (cntVal Y0)
         ∗ owns (c : Thread nD τ) arg3 fullShare (rdfVal Y0 Y1)) -∗ K ⟨⟩))
      ⊢ wp frame (wpE (defs₀ (F := F)) 𝒱 (c : Thread nD τ) bd) E (cc1__fin_kernel (F := F) arg0 harg0 arg1 harg1 arg2 harg2 arg3 harg3) K := by
  unfold owns
  iintro ⟨⟨%X0, %h0, H0⟩, ⟨%X1, %h1, H1⟩, ⟨%f2, %h2, H2⟩, ⟨%f3, %h3, H3⟩, HK⟩
  iapply (finRun (F := F) 𝒱 c bd arg0 harg0 arg1 harg1 arg2 harg2 arg3 harg3 X0 X1 f2 f3).2 E K
  isplitl [H0]; · iexact H0
  isplitl [H1]; · iexact H1
  isplitl [H2]; · iexact H2
  isplitl [H3]; · iexact H3
  iintro ⟨H0, H1, H2, H3⟩
  iapply HK
  isplitl [H0]
  · iexists _; isplitr; swap; (· iexact H0); ipureintro; exact h0
  isplitl [H1]
  · iexists _; isplitr; swap; (· iexact H1); ipureintro; exact h1
  isplitl [H2]
  · iexists _; isplitr; swap; (· iexact H2); ipureintro
    unfold finRun
    dsimp only
    rw [full_read, ← h0]
    rfl
  iexists _; isplitr; swap; (· iexact H3); ipureintro
  unfold finRun
  dsimp only
  rw [full_read, ← h0, ← row_ld Y1, ← h1]
  rfl

variable (c : Dev nD) (V : Valuation τ sig (Elt F))

/-- The arrays of the windows as the division finds them. -/
abbrev A1 (w : Fin cfg1.W) : Buf (Elt F) ((cfg1.win w).arr.view.loc (c.tc : Thread nD τ)) := V (Proc.devRef .tc (Pipeline.arrRef cfg1.spec w))

/-- What each window's buffer holds after the point. -/
def after1 : (w : Fin cfg1.W) → (t : Fin cfg1.N) → (cfg1.win w).block.Idx → Elt F (cfg1.win w).elt
  | ⟨0, _⟩, t => Pipeline.heldIn cfg1 (A1 c V) 0 t.val t.isLt
  | ⟨1, _⟩, t => Pipeline.heldIn cfg1 (A1 c V) 1 t.val t.isLt
  | ⟨2, _⟩, t => cntVal (Pipeline.heldIn cfg1 (A1 c V) 0 t.val t.isLt)
  | ⟨3, _⟩, t => rdfVal (Pipeline.heldIn cfg1 (A1 c V) 0 t.val t.isLt) (Pipeline.heldIn cfg1 (A1 c V) 1 t.val t.isLt)
  | ⟨_ + 4, h⟩, _ => absurd h (Nat.not_lt.2 (Nat.le_add_left _ _))

/-- The proof data of the division. -/
def dat1 : Pipeline.Dat τ (Elt F) Unit ℕ (UR sig nD τ) ℕ cfg1 c where
  A := A1 c V
  after := after1 c V
  Φ := fun _ => Pipeline.scopedRest cfg1.spec c
  q := fun _ => fullShare
  owed := fun _ => 0

theorem before_in1 (w : Fin cfg1.W) (hw : (cfg1.win w).isOut = false)
    (hafter : ∀ t, (dat1 c V).after w t = Pipeline.heldIn cfg1 (A1 c V) w t.val t.isLt) (hclip : ∀ (i : cfg1.grid.Coords) a, (cfg1.win w).clip i a = none) (t : Fin cfg1.N) (d) :
    (dat1 c V).before w t d = Pipeline.heldIn cfg1 (A1 c V) w t.val t.isLt :=
  Pipeline.Dat.before_eq_heldIn (dat := dat1 c V) w hw (fun _ => rfl) hclip hafter t d

/-- The body takes the point to the end. -/
theorem body1 (ι : Unit) (𝒱 : Variants) : Pipeline.BodyObligation (dat1 c V) defs₀ 𝒱 ι Set.univ := by
  intro t
  rw [bigSep_W1, bigSep_W1]
  show iprop(Pipeline.scopedRest cfg1.spec c ∗ (dat1 c V).owesAt ι t.castSucc
      ∗ (∃ d, owns (c : Thread nD τ) ((cfg1.win 0).stage (cfg1.slots t 0)) fullShare ((dat1 c V).before 0 t d))
      ∗ (∃ d, owns (c : Thread nD τ) ((cfg1.win 1).stage (cfg1.slots t 1)) fullShare ((dat1 c V).before 1 t d))
      ∗ (∃ d, owns (c : Thread nD τ) ((cfg1.win 2).stage (cfg1.slots t 2)) fullShare ((dat1 c V).before 2 t d))
      ∗ (∃ d, owns (c : Thread nD τ) ((cfg1.win 3).stage (cfg1.slots t 3)) fullShare ((dat1 c V).before 3 t d)))
    ⊢ wp frame (wpE (defs₀ (F := F)) 𝒱 (c : Thread nD τ) none) Set.univ (defs₀ Proc.tc cfg1.body (cfg1.bodyArgs t (cfg1.slots t))) fun _ =>
      iprop(Pipeline.scopedRest cfg1.spec c ∗ (dat1 c V).owesAt ι t.succ
      ∗ owns (c : Thread nD τ) ((cfg1.win 0).stage (cfg1.slots t 0)) fullShare ((dat1 c V).after 0 t)
      ∗ owns (c : Thread nD τ) ((cfg1.win 1).stage (cfg1.slots t 1)) fullShare ((dat1 c V).after 1 t)
      ∗ owns (c : Thread nD τ) ((cfg1.win 2).stage (cfg1.slots t 2)) fullShare ((dat1 c V).after 2 t)
      ∗ owns (c : Thread nD τ) ((cfg1.win 3).stage (cfg1.slots t 3)) fullShare ((dat1 c V).after 3 t))
  iintro ⟨HR, HO, ⟨%d0, W0⟩, ⟨%d1, W1⟩, ⟨%d2, W2⟩, ⟨%d3, W3⟩⟩
  rw [before_in1 c V 0 rfl (fun _ => rfl) (fun _ _ => rfl), before_in1 c V 1 rfl (fun _ => rfl) (fun _ _ => rfl)]
  iapply fin_owns (F := F) 𝒱 c none
    ((cfg1.win 0).stage (cfg1.slots t 0)) (hstage1_0 0) ((cfg1.win 1).stage (cfg1.slots t 1)) (hstage1_1 0) ((cfg1.win 2).stage (cfg1.slots t 2)) (hstage1_2 0)
    ((cfg1.win 3).stage (cfg1.slots t 3)) (hstage1_3 0)
  isplitl [W0]; · iexact W0
  isplitl [W1]; · iexact W1
  isplitl [W2]; · iexact W2
  isplitl [W3]; · iexact W3
  iintro ⟨W0, W1, W2, W3⟩
  isplitl [HR]; · iexact HR
  isplitl [HO]; · iexact HO
  isplitl [W0]; · iexact W0
  isplitl [W1]; · iexact W1
  isplitl [W2]; · iexact W2
  iexact W3

end Cert.KernelIdeal.Hist
end
-- ==== Proof.MainRun.lean ====
/- The whole program's run: the host operations, the pass over the tiles, the closing division, the last reshapes;
   every buffer of the core ends at `W6`. -/
module

public import proofs.«01_k».proof.Proof.FinRun
public import proofs.«01_k».proof.Proof.Gen.KernelIdeal.Launch
public import proofs.«01_k».proof.Proof.Gen.KernelIdeal.Regions
public import Idealize.ShloMosaic.Lib.Pipeline.FrameTail
public import Idealize.ShloMosaic.Adequacy

@[expose] public section

noncomputable section

namespace Cert.KernelIdeal.Hist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (V : Dev nD → Valuation τ sig (Elt F))

/-- The core's buffers after the pass over the tiles, after the division, and at the end. -/
def W4 (c : Dev nD) : Valuation τ sig (Elt F) := Pipeline.afterRegion (dat0 a0 c (V c)) (V c)
def W5 (c : Dev nD) : Valuation τ sig (Elt F) := Pipeline.afterRegion (dat1 c (W4 V c)) (W4 V c)
abbrev W6 (c : Dev nD) : Valuation τ sig (Elt F) := StableHlo.after hostOps2 (W5 V c)

/-- The two pipelines' proof data. -/
def pdats : (p : Fin 2) → (c : Dev nD) → Dat τ (Elt F) Unit ℕ (UR sig nD τ) ℕ (Pipeline.pin (pcfgs (F := F)) adm p) c
  | ⟨0, _⟩, c => dat0 a0 c (V c)
  | ⟨1, _⟩, c => dat1 c (W4 V c)
  | ⟨_ + 2, h⟩, _ => absurd h (Nat.not_lt.2 (Nat.le_add_left _ _))

abbrev L₀ : GSem nD τ sig → Finset Unit := fun g => if g.1.2 = .tc then {()} else ∅
abbrev lv₀ : GSem nD τ sig → Unit → ℕ := fun _ _ => 0

theorem cut (p : Fin 2) : Pipeline.LevelCut (pcfgs (F := F)) adm () L₀ lv₀ p (fun _ => 0) (fun _ => 0) where
  hι := fun c w s => by
    show () ∈ (if (Proc.tc : Proc τ) = .tc then ({()} : Finset Unit) else ∅)
    rw [if_pos rfl]; exact Finset.mem_singleton_self _
  hιb := fun _ _ _ => le_rfl
  hD := fun _ _ _ h => absurd h (lt_irrefl _)

/-- What a core carries beside its buffers. -/
abbrev rest (c : Dev nD) : sProp 𝕄 := iprop((∃ W, owes (c : Thread nD τ) (0 : CellTallies nD τ sig Unit) W) ∗ emp ∗ emp)

variable (𝒱₀ : Variants)

variable (hT : ∀ (c : Dev nD) (k : Fin pre0.K), (tabs (F := F)) k = V c (Proc.devRef .tc (pre0.ref k)))

def reg0 : RegionSeg (pcfgs (F := F)) adm (pdats V) () defs₀ 𝒱₀ L₀ lv₀ 0 :=
  RegionSeg.ofHeldInT (pcfgs (F := F)) adm (pdats V) () defs₀ 𝒱₀ L₀ lv₀ 0 (fun _ => 0) (Pipeline.ucRefs τ sig) (fun _ => iprop(emp)) (fun _ => iprop(emp)) launch0
    (fun c => (body0 a0 c (V c) () 𝒱₀).loose) (fun _ _ => rfl) (fun _ => rfl) (fun c w => (pdats V 0 c).share_full (fun _ => rfl) w)
    (fun c => by
      show iprop(iprop(Pipeline.scopedRest (cfg0 a0).spec c ∗ emp) ∗ Pipeline.prefHeld pre0 c (fun _ => fullShare) a0.1) ⊢ inv0 a0 c
      iintro ⟨⟨H, -⟩, HT⟩
      isplitl [H]; · iexact H
      iexact HT)
    (fun c => by
      show inv0 a0 c ⊢ iprop(iprop(Pipeline.scopedRest (cfg0 a0).spec c ∗ emp) ∗ Pipeline.prefHeld pre0 c (fun _ => fullShare) a0.1)
      iintro ⟨H, HT⟩
      isplitl [H]
      · isplitl [H]; · iexact H
        iempintro
      iexact HT)
    (fun _ => 0) (cut 0) (fun _ => iprop(emp)) V (fun _ _ => rfl) (fun c k => hT c k)

def reg1 : RegionSeg (pcfgs (F := F)) adm (pdats V) () defs₀ 𝒱₀ L₀ lv₀ 1 :=
  RegionSeg.ofHeldIn (pcfgs (F := F)) adm (pdats V) () defs₀ 𝒱₀ L₀ lv₀ 1 (fun _ => 0) (Pipeline.ucRefs τ sig) (fun _ => iprop(emp)) (fun _ => iprop(emp)) launch1 rfl
    (fun c => (body1 c (W4 V c) () 𝒱₀).loose) (fun _ _ => rfl) (fun _ => rfl) (fun c w => (pdats V 1 c).share_full (fun _ => rfl) w)
    (fun c => by
      show iprop(Pipeline.scopedRest cfg1.spec c ∗ emp) ⊢ Pipeline.scopedRest cfg1.spec c
      iintro ⟨H, -⟩
      iexact H)
    (fun c => by
      show Pipeline.scopedRest cfg1.spec c ⊢ iprop(Pipeline.scopedRest cfg1.spec c ∗ emp)
      iintro H
      isplitl [H]; · iexact H
      iempintro)
    (fun _ => 0) (cut 1) (fun _ => iprop(emp)) (W4 V) (fun _ _ => rfl)

theorem arr_sub0 : Pipeline.arrRefs (τ := τ) (pcfgs (F := F) 0).spec ⊆ Pipeline.ucRefs τ sig := Pipeline.arrRefs_sub_ucRefs _ winFacts0.arr_unscoped
theorem arr_sub1 : Pipeline.arrRefs (τ := τ) (pcfgs (F := F) 1).spec ⊆ Pipeline.ucRefs τ sig := Pipeline.arrRefs_sub_ucRefs _ winFacts1.arr_unscoped
theorem tbl_sub0 : Pipeline.tblRefs (τ := τ) (pcfgs (F := F) 0).pre ⊆ Pipeline.ucRefs τ sig := Pipeline.tblRefs_sub_ucRefs _ preFacts0.unscoped

theorem link3 (c : Dev nD) : iprop(StableHlo.held (c : Thread nD τ) (Pipeline.ucRefs τ sig) (V c) ∗ rest c) ⊢ (reg0 V 𝒱₀ hT).pre c := by
  unfold reg0
  exact RegionSeg.ofHeldInT_pre (pcs := pcfgs) (a := adm) (pdats := pdats V) (ι := ()) (defs₀ := defs₀) (𝒱₀ := 𝒱₀) (L := L₀) (lv := lv₀) (p := 0) (D := fun _ => 0) (S := Pipeline.ucRefs τ sig) arr_sub0 tbl_sub0 (X := fun _ => iprop(emp)) (Y := fun _ => iprop(emp)) (R := fun _ => iprop(emp)) (W := V) c

theorem post4 (c : Dev nD) : (reg0 V 𝒱₀ hT).post c ⊢ iprop(StableHlo.held (c : Thread nD τ) (Pipeline.ucRefs τ sig) (W4 V c) ∗ rest c) := by
  unfold reg0
  exact RegionSeg.ofHeldInT_post arr_sub0 tbl_sub0 c

theorem pre4 (c : Dev nD) : iprop(StableHlo.held (c : Thread nD τ) (Pipeline.ucRefs τ sig) (W4 V c) ∗ rest c) ⊢ (reg1 V 𝒱₀).pre c := by
  unfold reg1
  exact RegionSeg.ofHeldIn_pre (pcs := pcfgs) (a := adm) (pdats := pdats V) (ι := ()) (defs₀ := defs₀) (𝒱₀ := 𝒱₀) (L := L₀) (lv := lv₀) (p := 1) (D := fun _ => 0) (S := Pipeline.ucRefs τ sig) arr_sub1 (X := fun _ => iprop(emp)) (Y := fun _ => iprop(emp)) (R := fun _ => iprop(emp)) (W := W4 V) c

theorem link4 (c : Dev nD) : (reg0 V 𝒱₀ hT).post c ⊢ (reg1 V 𝒱₀).pre c := (post4 V 𝒱₀ hT c).trans (pre4 V 𝒱₀ c)

theorem link5 (c : Dev nD) : (reg1 V 𝒱₀).post c ⊢ iprop(StableHlo.held (c : Thread nD τ) (Pipeline.ucRefs τ sig) (W5 V c) ∗ rest c) := by
  unfold reg1
  exact RegionSeg.ofHeldIn_post arr_sub1 c

variable (m : (ℓ : Loc nD τ sig) → Buf (Elt F) ℓ)

theorem table_at (c : Dev nD) : ∀ k : Fin pre0.K, (tabs (F := F)) k = V3 m c (Proc.devRef .tc (pre0.ref k)) := by
  have h (r : Ref sig .tc) (h0 : r ∉ hostOps0_1_W) (h1 : r ∉ hostOps0_2_W) : V3 m c r = V1 m c r := (V3_of m c r h1).trans (V2_of m c r h0)
  intro k
  fin_cases k
  · exact ((h main_c (by decide) (by decide)).trans (by rfl)).symm
  · exact ((h main_c_0 (by decide) (by decide)).trans (by rfl)).symm

/-- The last reshapes, from the buffers the division leaves. -/
def tail : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 V) rest

abbrev items : List (Seg (pcfgs (F := F)) adm (pdats (V3 m)) () defs₀ 𝒱₀ L₀ lv₀) :=
  [.host (seg0 m 𝒱₀ L₀ lv₀ fun _ => rest), .host (seg1 m 𝒱₀ L₀ lv₀ fun _ => rest), .host (seg2 m 𝒱₀ L₀ lv₀ fun _ => rest),
    .region (reg0 (V3 m) 𝒱₀ (table_at m)), .region (reg1 (V3 m) 𝒱₀), .host (tail (V3 m) 𝒱₀)]

theorem link6 (W : Dev nD → Valuation τ sig (Elt F)) (c : Dev nD) : iprop(StableHlo.held (c : Thread nD τ) (Pipeline.ucRefs τ sig) (W c) ∗ rest c)
    ⊢ (iprop(StableHlo.held (c : Thread nD τ) (Pipeline.ucRefs τ sig) (W c) ∗ ∃ W', owes (c : Thread nD τ) (0 : CellTallies nD τ sig Unit) W') : sProp 𝕄) := by
  iintro ⟨Hh, HO, -⟩
  isplitl [Hh] <;> iassumption

theorem launch_link (c : Dev nD) (r : PrngReg) : iprop(iprop(unscopedBufs c (fun b => m ((c.tc : Thread nD τ).loc b)) ∗ unscopedSems0 c
      ∗ owes (c : Thread nD τ) ((0 : Dev nD → CellTallies nD τ sig Unit) c) ∅ ∗ Pipeline.launchCred 0 c ∗ prngReg c r ∗ emp) ∗ levAts L₀ lv₀)
    ⊢ (|={Set.univ}=> iprop(StableHlo.held (c : Thread nD τ) (Pipeline.ucRefs τ sig) (V0 m c) ∗ rest c) : sProp 𝕄) := by
  rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
  iintro ⟨⟨Hh, -, HO, -, -, -⟩, -⟩
  imodintro
  isplitl [Hh]; · iexact Hh
  isplitl [HO]; · iexists ∅; iexact HO
  isplitr <;> iempintro

theorem read_end (W : Dev nD → Valuation τ sig (Elt F)) (c : Dev nD) (s' : Phys nD τ sig (Elt F)) :
    iprop(StableHlo.held (c : Thread nD τ) (Pipeline.ucRefs τ sig) (W c) ∗ SI s') ⊢ (|={Set.univ}=> iprop(⌜∀ b ∈ Pipeline.ucRefs τ sig, s'.mem.mem ((c.tc : Thread nD τ).1, b) = W c b⌝ ∗ SI s') : sProp 𝕄) := by
  unfold StableHlo.held
  iintro ⟨Hh, HSI⟩
  ihave Hr := (pointsTo_read_all (Pipeline.ucRefs τ sig) (fun b => ((c.tc : Thread nD τ).1, b)) (W c) s') $$ [Hh HSI]
  · isplitl [Hh] <;> iassumption
  imodintro; iexact Hr

set_option backward.isDefEq.respectTransparency.types false in
/-- Every execution ends, with every buffer of the core at `W6` and every semaphore counter at zero. -/
theorem main_run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W6 (V3 m) c b) ∧ r.2.sem = fun _ => 0) := by
  refine Pipeline.θ_run_regions_kit_dev_sems (pcfgs (F := F)) adm (pdats (V3 m)) () (cellOf_inj adm) emb₁ defs₀ Variants.none L₀ lv₀ m ρ main
    (fun _ => items Variants.none m)
    (fun c Q => by
      rewrite [main_chain c, Seg.run_eq_chain,
        show (items Variants.none m).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (fun c => by simp only [Seg.pipes_host, Seg.pipes_region, Seg.pipes_nil]; decide) 0 (fun g h => if_neg h)
    (fun _ => iprop(emp)) (initOf (Pipeline.cells (Pipeline.pin (pcfgs (F := F)) adm) (cellOf_inj adm)) (Pipeline.launchToks (Pipeline.pin (pcfgs (F := F)) adm) (cellOf_inj adm)))
    (by
      iintro Hu; imodintro
      isplitl [Hu]
      · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W6 (V3 m) c))
    (hch := fun c => ⟨.rfl, .rfl, .rfl, link3 (V3 m) _ (table_at m) c, link4 (V3 m) _ (table_at m) c, link5 (V3 m) _ c, link6 (W6 (V3 m)) c⟩)
    (hinit := Pipeline.initEach L₀ lv₀ fun c => launch_link m c (ρ c))
    (QY := fun c s => ∀ b ∈ Pipeline.ucRefs τ sig, s.mem ((c.tc : Thread nD τ).1, b) = W6 (V3 m) c b)
    (hfin := fun c s' => read_end (W6 (V3 m)) c s')
    (hQ := fun _ h hz => ⟨h, funext fun g => hz g (.inr (regions_no_unscoped g.2))⟩)

theorem W4_of (V : Dev nD → Valuation τ sig (Elt F)) (c : Dev nD) (b : Ref sig .tc) (h : b ≠ main_v38) : W4 V c (Proc.devRef .tc b) = V c (Proc.devRef .tc b) :=
  Pipeline.afterRegion_keeps (dat0 a0 c (V c)) (V c) winFacts0.arr_inj (fun _ => rfl) b (fun w hw => by
    fin_cases w
    · rfl
    · rfl
    · rfl
    · exact absurd hw.symm h)

theorem W5_of (V : Dev nD → Valuation τ sig (Elt F)) (c : Dev nD) (b : Ref sig .tc) (h : b ≠ main_v39_0) (h' : b ≠ main_v39_1) :
    W5 V c (Proc.devRef .tc b) = W4 V c (Proc.devRef .tc b) :=
  Pipeline.afterRegion_keeps (dat1 c (W4 V c)) (W4 V c) winFacts1.arr_inj (fun _ => rfl) b (fun w hw => by
    fin_cases w
    · rfl
    · rfl
    · exact absurd hw.symm h
    · exact absurd hw.symm h')

theorem W6_of (V : Dev nD → Valuation τ sig (Elt F)) (c : Dev nD) (b : Ref sig .tc) (h : b ∉ hostOps2_W) : W6 V c b = W5 V c b :=
  StableHlo.after_of_writes_sub hostOps2 _ hostOps2_writes h

theorem arg_kept (c : Dev nD) : W6 (V3 m) c main_arg0 = m ((c.tc : Thread nD τ).loc main_arg0) := by
  rw [W6_of _ _ _ (by decide)]
  refine (W5_of _ _ _ (by decide) (by decide)).trans ?_
  refine (W4_of _ _ _ (by decide)).trans ?_
  refine (V3_of m c main_arg0 (by decide)).trans ((V2_of m c main_arg0 (by decide)).trans ((V1_of m c main_arg0 (by decide)).trans rfl))

/-- Every execution ends with the argument as it was and every semaphore counter at zero. -/
theorem frame_run (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun _ h => ⟨fun c => (h.1 c _ (Pipeline.devRef_mem_ucRefs (b := main_arg0) (by decide))).trans (arg_kept m c), h.2⟩) (main_run m ρ)

end Cert.KernelIdeal.Hist
end
-- ==== Proof.BlockVal.lean ====
/- What the windows of the pass hold at each grid point: the tile's rows of the coordinates, the tile's columns of
   the transposed coordinates, and the whole table of offsets. -/
module

public import proofs.«01_k».proof.Proof.FinRun

@[expose] public section

noncomputable section

namespace Cert.KernelIdeal.Hist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F] [Named F]

/-- A window that is only read holds the block of the point it is at, whether it was fetched there or before. -/
theorem held_fetched {cfg : Pipeline.Cfg sig Λ₀} {c : Dev nD} (dat : Pipeline.Dat τ (Elt F) Unit ℕ (UR sig nD τ) ℕ cfg c) (w : Fin cfg.W)
    (hin : (cfg.win w).isOut = false) (hclip : ∀ i a, (cfg.win w).clip i a = none) :
    ∀ (n : ℕ) (h : n < cfg.N), Pipeline.heldIn cfg dat.A w n h = dat.fetched w ⟨n, h⟩ (fun _ => Classical.arbitrary _) := by
  intro n
  induction n with
  | zero => intro h; rfl
  | succ n ih =>
    intro h
    by_cases hf : (cfg.win w).fetch ⟨n + 1, h⟩ = true
    · exact Pipeline.heldIn_of_fetch dat.A w ⟨n + 1, h⟩ hf
    · rw [Pipeline.heldIn_of_not_fetch dat.A w n h (Bool.eq_false_iff.mpr hf), ih]
      refine dat.fetched_congr w ?_ ?_ _
      · by_contra hne
        apply hf
        unfold Pipeline.Window.fetch
        rw [hin]
        simp only [Bool.not_false, Bool.true_and, Bool.or_eq_true, decide_eq_true_eq]
        exact Or.inr ⟨Nat.succ_pos n, fun e => hne e.symm⟩
      · funext a; rw [hclip, hclip]

variable (c : Dev nD) (V : Valuation τ sig (Elt F))

theorem held0 (n : ℕ) (h : n < grid0.N) (y : S256x3.Idx) (z : S3072x3.Idx)
    (h0 : (z 0).val = 256 * (lit0 (grid0.coords ⟨n, h⟩ 0)).toNat + (y 0).val) (h1 : (z 1).val = (y 1).val) :
    Pipeline.heldIn (cfg0 a0) (A0 a0 c V) 0 n h y = V (Proc.devRef .tc main_v2) z := by
  refine (congrFun (held_fetched (dat0 a0 c V) 0 rfl (fun _ _ => rfl) n h) y).trans ?_
  show V (Proc.devRef .tc main_v2) _ = V (Proc.devRef .tc main_v2) z
  congr 1
  funext d
  have ht := transform0_eq (F := F) (grid0.coords ⟨n, h⟩)
  fin_cases d
  · apply Fin.ext
    show cc0_transform_0 k0_off1_inb numel1_S1 (tabs (F := F)) (grid0.coords ⟨n, h⟩) 0 * 256 + 1 * (y 0).val = (z 0).val
    rw [ht, h0]
    show (lit0 (grid0.coords ⟨n, h⟩ 0)).toNat * 256 + 1 * (y 0).val = _
    omega
  · apply Fin.ext
    show cc0_transform_0 k0_off1_inb numel1_S1 (tabs (F := F)) (grid0.coords ⟨n, h⟩) 1 * 3 + 1 * (y 1).val = (z 1).val
    rw [ht, h1]
    show 0 * 3 + 1 * (y 1).val = _
    omega

theorem held1 (n : ℕ) (h : n < grid0.N) (y : S3x256.Idx) (z : S3x3072.Idx)
    (h0 : (z 0).val = (y 0).val) (h1 : (z 1).val = 256 * (lit1 (grid0.coords ⟨n, h⟩ 0)).toNat + (y 1).val) :
    Pipeline.heldIn (cfg0 a0) (A0 a0 c V) 1 n h y = V (Proc.devRef .tc main_v3) z := by
  refine (congrFun (held_fetched (dat0 a0 c V) 1 rfl (fun _ _ => rfl) n h) y).trans ?_
  show V (Proc.devRef .tc main_v3) _ = V (Proc.devRef .tc main_v3) z
  congr 1
  funext d
  have ht := transform1_eq (F := F) (grid0.coords ⟨n, h⟩)
  fin_cases d
  · apply Fin.ext
    show cc0_transform_1 k0_off1_inb numel1_S1 (tabs (F := F)) (grid0.coords ⟨n, h⟩) 0 * 3 + 1 * (y 0).val = (z 0).val
    rw [ht, h0]
    show 0 * 3 + 1 * (y 0).val = _
    omega
  · apply Fin.ext
    show cc0_transform_1 k0_off1_inb numel1_S1 (tabs (F := F)) (grid0.coords ⟨n, h⟩) 1 * 256 + 1 * (y 1).val = (z 1).val
    rw [ht, h1]
    show (lit1 (grid0.coords ⟨n, h⟩ 0)).toNat * 256 + 1 * (y 1).val = _
    omega

theorem whole_idx (y z : S104x256.Idx) (h : ∀ d, (z d).val = 0 * S104x256.size d + 1 * (y d).val) : z = y := by
  funext d
  apply Fin.ext
  rw [h d]
  omega

theorem held2 (n : ℕ) (h : n < grid0.N) : Pipeline.heldIn (cfg0 a0) (A0 a0 c V) 2 n h = V (Proc.devRef .tc main_v19) := by
  refine (held_fetched (dat0 a0 c V) 2 rfl (fun _ _ => rfl) n h).trans ?_
  funext y
  show V (Proc.devRef .tc main_v19) _ = V (Proc.devRef .tc main_v19) y
  congr 1
  exact whole_idx y _ (fun d => by fin_cases d <;> rfl)

theorem tab1_eq (i : grid0.Coords) : tab1 (F := F) a0 i = lit0 (i 0) := congrArg lit0 (row_at i)
theorem tab2_eq (i : grid0.Coords) : tab2 (F := F) a0 i = lit1 (i 0) := congrArg lit1 (row_at i)

end Cert.KernelIdeal.Hist
-- ==== Proof.EndVal.lean ====
/- What the run's end holds in the buffers of the results, from what the pass and the division leave. -/
module

public import proofs.«01_k».proof.Proof.MainRun
public import proofs.«01_k».proof.Proof.BlockVal
public import Idealize.ShloMosaic.Lib.Pipeline.ValueKit.Geometry
public import Idealize.ShloMosaic.Lib.StableHlo.Run

@[expose] public section

noncomputable section

namespace Cert.KernelIdeal.Hist

open Cert.KernelIdeal Cert.KernelIdeal.Gen
open Idealize.ShloMosaic Idealize.ShloMosaic.TcCoe
open Idealize.ShloMosaic.Rounds

variable {F : FTy → Type} [FloatOps F] [Named F]
variable (V : Dev nD → Valuation τ sig (Elt F)) (c : Dev nD)

theorem last_lt : 77 < grid0.N := by decide

theorem whole3 : ((cfg0 (F := F) a0).win 3).WholeAt ⟨77, last_lt⟩ := by
  have hN : ∀ t : Fin grid0.N, ((cfg0 (F := F) a0).win 3).flush t = true ↔ t.val = 77 :=
    fun t => (Pipeline.Window.flush_const ((cfg0 (F := F) a0).win 3) rfl (fun _ _ => rfl) N_0 (m := 77) rfl t).trans (by
      have : t.val < 78 := t.isLt
      omega)
  refine ⟨(hN _).mpr rfl, fun t h => Fin.ext ((hN t).mp h), fun a => ?_⟩
  fin_cases a <;> exact ⟨rfl, rfl⟩

theorem W4_v38 : W4 V c (Proc.devRef .tc main_v38) = acc a0 c (V c) 77 last_lt := by
  refine (Pipeline.afterRegion_arr (dat0 a0 c (V c)) (V c) winFacts0.arr_inj 3).trans ?_
  refine (dat0 a0 c (V c)).arrAt_eq_of_after_last 3 ⟨77, last_lt⟩ whole3 _ fun j => ?_
  rfl

theorem whole1_2 : (cfg1.win 2).WholeAt t1_0 := by decide +kernel
theorem whole1_3 : (cfg1.win 3).WholeAt t1_0 := by decide +kernel

theorem fin_idx {n0 n1 : ℕ} (y z : (⟨2, ![n0, n1]⟩ : Shape).Idx) (h0 : (z 0).val = 0 * n0 + 1 * (y 0).val) (h1 : (z 1).val = 0 * n1 + 1 * (y 1).val) : z = y := by
  funext d
  fin_cases d
  · exact Fin.ext (show (z 0).val = (y 0).val by omega)
  · exact Fin.ext (show (z 1).val = (y 1).val by omega)

variable (W : Valuation τ sig (Elt F))

theorem fin0 : Pipeline.heldIn cfg1 (A1 c W) 0 t1_0.val t1_0.isLt = W (Proc.devRef .tc main_v38) := by
  refine (held_fetched (dat1 c W) 0 rfl (fun _ _ => rfl) _ _).trans ?_
  funext y
  show W (Proc.devRef .tc main_v38) _ = W (Proc.devRef .tc main_v38) y
  exact congrArg _ (fin_idx y _ rfl rfl)

theorem fin1 : Pipeline.heldIn cfg1 (A1 c W) 1 t1_0.val t1_0.isLt = W (Proc.devRef .tc main_v37) := by
  refine (held_fetched (dat1 c W) 1 rfl (fun _ _ => rfl) _ _).trans ?_
  funext y
  show W (Proc.devRef .tc main_v37) _ = W (Proc.devRef .tc main_v37) y
  exact congrArg _ (fin_idx y _ rfl rfl)

theorem W5_v39_0 : W5 V c (Proc.devRef .tc main_v39_0) = cntVal (W4 V c (Proc.devRef .tc main_v38)) := by
  refine (Pipeline.afterRegion_arr (dat1 c (W4 V c)) (W4 V c) winFacts1.arr_inj 2).trans ?_
  refine (dat1 c (W4 V c)).arrAt_eq_of_after_last 2 t1_0 whole1_2 _ fun j => ?_
  rw [← fin0 c (W4 V c)]
  rfl

theorem W5_v39_1 : W5 V c (Proc.devRef .tc main_v39_1) = rdfVal (W4 V c (Proc.devRef .tc main_v38)) (W4 V c (Proc.devRef .tc main_v37)) := by
  refine (Pipeline.afterRegion_arr (dat1 c (W4 V c)) (W4 V c) winFacts1.arr_inj 3).trans ?_
  refine (dat1 c (W4 V c)).arrAt_eq_of_after_last 3 t1_0 whole1_3 _ fun j => ?_
  rw [← fin0 c (W4 V c), ← fin1 c (W4 V c)]
  rfl

theorem W6_v40 : W6 V c (Proc.devRef .tc main_v40) = shapeCast S100 (W5 V c (Proc.devRef .tc main_v39_0)) shapeCasts_S1x100_S100 := by
  after_results_simp
  rfl

theorem W6_v41 : W6 V c (Proc.devRef .tc main_v41) = shapeCast S100 (W5 V c (Proc.devRef .tc main_v39_1)) shapeCasts_S1x100_S100 := by
  after_results_simp
  rfl

end Cert.KernelIdeal.Hist
-- ==== Proof.Math.lean ====
/- One pair's contribution to one bin, in extended reals: what the kernel's tile computes and what the reference computes
   are the same real number. -/
module

public import Idealize.ShloMosaic.PureOps
public import Idealize.ShloMosaic.PureOps.Ideal
public import Mathlib.Analysis.SpecialFunctions.Pow.Real
public import Mathlib.Analysis.SpecialFunctions.Pow.NNReal

@[expose] public section

noncomputable section

namespace Cert.Rdf

open Idealize.ShloMosaic

/-- The distance of two coordinates, and the least one over the box's images. -/
def ad (x y : EReal) : EReal := max (x - y) (-(x - y))
def mi (x y : EReal) : EReal := min (ad x y) (((15 : ℝ) : EReal) - ad x y)
/-- The reference's shifted difference. -/
def sh (x y : EReal) : EReal :=
  (x - y) + ((-(if ((15/2 : ℝ) : EReal) ≤ x - y then (1 : EReal) else 0)) + (if x - y < ((-(15/2) : ℝ) : EReal) then (1 : EReal) else 0)) * ((15 : ℝ) : EReal)

theorem ad_comm (x y : EReal) : ad x y = ad y x := by
  induction x <;> induction y <;> simp [ad, ← EReal.coe_sub, ← EReal.coe_neg, max_comm]

theorem sq_mi (x y : EReal) : mi x y * mi x y = sh x y * sh x y := by
  unfold mi sh ad
  generalize x - y = d
  induction d with
  | bot => simp [EReal.bot_lt_coe]
  | top => simp
  | coe d =>
    by_cases h1 : 15/2 ≤ d
    · have h2 : ¬ d < -(15/2) := by linarith
      rw [if_pos (by exact_mod_cast h1), if_neg (by exact_mod_cast h2)]
      rw [max_eq_left (by rw [← EReal.coe_neg]; exact_mod_cast (by linarith : -d ≤ d)), min_eq_right (by rw [← EReal.coe_sub]; exact_mod_cast (by linarith : 15 - d ≤ d))]
      rw [add_zero, ← EReal.coe_one, ← EReal.coe_neg, ← EReal.coe_mul, ← EReal.coe_add, ← EReal.coe_sub, ← EReal.coe_mul, ← EReal.coe_mul]
      congr 1; ring
    · rw [if_neg (by exact_mod_cast h1)]
      by_cases h2 : d < -(15/2)
      · rw [if_pos (by exact_mod_cast h2)]
        rw [max_eq_right (by rw [← EReal.coe_neg]; exact_mod_cast (by linarith : d ≤ -d)), ← EReal.coe_neg, min_eq_right (by rw [← EReal.coe_sub]; exact_mod_cast (by linarith : 15 - -d ≤ -d))]
        rw [neg_zero, zero_add, ← EReal.coe_one, ← EReal.coe_mul, ← EReal.coe_add, ← EReal.coe_sub, ← EReal.coe_mul, ← EReal.coe_mul]
        congr 1; ring
      · rw [if_neg (by exact_mod_cast h2)]
        push Not at h1 h2
        have hm : max (d : EReal) (-(d:EReal)) = ((|d| : ℝ) : EReal) := by
          rw [← EReal.coe_neg, abs_eq_max_neg]; exact (EReal.coe_strictMono.monotone.map_max).symm
        have hd : |d| ≤ 15/2 := abs_le.mpr ⟨h2, h1.le⟩
        rw [hm, ← EReal.coe_sub, min_eq_left (by exact_mod_cast (by linarith : |d| ≤ 15 - |d|))]
        rw [neg_zero, add_zero, zero_mul, add_zero, ← EReal.coe_mul, ← EReal.coe_mul, abs_mul_abs_self]

theorem sq_nonneg (x : EReal) : 0 ≤ x * x := by
  induction x with
  | bot => simp
  | top => simp
  | coe d => rw [← EReal.coe_mul]; exact_mod_cast mul_self_nonneg d

/-- A pair's squared distance. -/
def pd (u v : ℕ → EReal) : EReal := ((0 + mi (u 0) (v 0) * mi (u 0) (v 0)) + mi (u 1) (v 1) * mi (u 1) (v 1)) + mi (u 2) (v 2) * mi (u 2) (v 2)

theorem pd_comm (u v : ℕ → EReal) : pd u v = pd v u := by
  have h (x y : EReal) : mi x y = mi y x := by rw [mi, mi, ad_comm]
  rw [pd, pd, h (u 0), h (u 1), h (u 2)]

/-- A pair counts: its squared distance is positive and below the cutoff's. -/
def near (D : EReal) : Prop := D < ((225/4 : ℝ) : EReal) ∧ 0 < D

theorem not_near_self (u : ℕ → EReal) : ¬ near (pd u u) := by
  have h (x : EReal) : mi x x * mi x x = 0 ∨ mi x x * mi x x = ⊤ := by
    induction x with
    | bot => right; simp [mi, ad]
    | top => right; simp [mi, ad]
    | coe d => left; simp [mi, ad, ← EReal.coe_sub]
  rintro ⟨h1, h2⟩
  unfold pd at h1 h2
  rcases h (u 0) with h0 | h0 <;> rcases h (u 1) with h3 | h3 <;> rcases h (u 2) with h4 | h4 <;> rw [h0, h3, h4] at h1 h2 <;> simp at h1 h2

theorem not_near_of_sq (D s : EReal) (h : s ≤ D) (hs : ((225/4 : ℝ) : EReal) ≤ s) : ¬ near D := fun hn => absurd (hn.1.trans_le hs) (not_lt.mpr h)

theorem sq_le_pd (u v : ℕ → EReal) : mi (u 0) (v 0) * mi (u 0) (v 0) ≤ pd u v := by
  unfold pd
  rw [zero_add, add_assoc]
  exact le_add_of_nonneg_right (add_nonneg (sq_nonneg _) (sq_nonneg _))

/-- An atom of the lower half and a padding atom do not count. -/
theorem not_near_pad (u v : ℕ → EReal) (hu : u 0 < ((500000 : ℝ) : EReal)) (hv : v 0 = ((1000000 : ℝ) : EReal)) : ¬ near (pd u v) := by
  refine not_near_of_sq _ _ (sq_le_pd u v) ?_
  rw [hv]
  generalize u 0 = x at hu
  induction x with
  | bot => simp [mi, ad]
  | top => exact absurd hu (by simp)
  | coe x =>
    have hx : x < 500000 := by exact_mod_cast hu
    have ha : ad x (1000000 : ℝ) = ((1000000 - x : ℝ) : EReal) := by
      rw [ad, ← EReal.coe_sub, ← EReal.coe_neg, max_eq_right (by exact_mod_cast (by linarith : x - 1000000 ≤ -(x - 1000000)))]
      congr 1; ring
    rw [mi, ha, ← EReal.coe_sub, min_eq_right (by exact_mod_cast (by linarith : 15 - (1000000 - x) ≤ 1000000 - x)), ← EReal.coe_mul]
    exact_mod_cast (by nlinarith : (225/4 : ℝ) ≤ (15 - (1000000 - x)) * (15 - (1000000 - x)))

/-- Two padding atoms do not count. -/
theorem not_near_pads (u v : ℕ → EReal) (hu : ∀ j < 3, u j = ((1000000 : ℝ) : EReal)) (hv : ∀ j < 3, v j = ((1000000 : ℝ) : EReal)) : ¬ near (pd u v) := by
  have e : pd u v = pd u u := by rw [pd, pd, hv 0 (by norm_num), hv 1 (by norm_num), hv 2 (by norm_num), hu 0 (by norm_num), hu 1 (by norm_num), hu 2 (by norm_num)]
  rw [e]; exact not_near_self u

theorem near_coe {D : EReal} (h : near D) : ∃ p : ℝ, 0 < p ∧ D = p := by
  obtain ⟨h1, h2⟩ := h
  induction D with
  | bot => simp at h2
  | top => simp at h1
  | coe p => exact ⟨p, by exact_mod_cast h2, rfl⟩

/-- The scale of a distance. -/
def sl : ℝ := Real.sqrt ((1 / 2) * (Real.log 2)⁻¹) * (99 / 7)

open Classical in
/-- The scaled distance that the kernel writes down, and the pair's contribution to the bin of scaled centre `o`. -/
def dsc (D : EReal) : EReal := if near D then (sl : EReal) * Ideal.sqrt D else ⊤

open Classical in
def tr (o : ℝ) (D : EReal) : ℝ := if near D then (2 : ℝ) ^ (-((sl * Real.sqrt D.toReal - o) * (sl * Real.sqrt D.toReal - o))) else 0

theorem tr_nonneg (o : ℝ) (D : EReal) : 0 ≤ tr o D := by
  unfold tr; split
  · positivity
  · exact le_rfl

theorem term_top (o : ℝ) : Ideal.exp2 (0 - (⊤ - (o : EReal)) * (⊤ - (o : EReal))) = ((0 : ℝ) : EReal) := by
  simp

theorem term_dsc (o : ℝ) (D : EReal) : Ideal.exp2 (0 - (dsc D - (o : EReal)) * (dsc D - (o : EReal))) = (tr o D : EReal) := by
  by_cases h : near D
  · obtain ⟨p, hp, rfl⟩ := near_coe h
    rw [dsc, if_pos h, tr, if_pos h, Ideal.sqrt_coe, if_neg (not_lt.mpr hp.le), ← EReal.coe_mul, ← EReal.coe_sub, ← EReal.coe_mul, zero_sub, ← EReal.coe_neg, Ideal.exp2_coe, EReal.toReal_coe]
    rfl
  · rw [dsc, if_neg h, tr, if_neg h, term_top]

theorem two_pow (x : ℝ) (k : ℝ) : (2 : ℝ) ^ (-((sl * x - sl * k) * (sl * x - sl * k))) = Real.exp ((-(1/2)) / ((7/99) * (7/99)) * ((x - k) * (x - k))) := by
  have h2 : (0:ℝ) < Real.log 2 := Real.log_pos (by norm_num)
  have hs : Real.sqrt ((1 / 2) * (Real.log 2)⁻¹) * Real.sqrt ((1 / 2) * (Real.log 2)⁻¹) = (1 / 2) * (Real.log 2)⁻¹ := Real.mul_self_sqrt (by positivity)
  rw [Real.rpow_def_of_pos (by norm_num)]
  congr 1
  unfold sl
  generalize Real.sqrt ((1 / 2) * (Real.log 2)⁻¹) = c at hs
  have : Real.log 2 * -((c * (99/7) * x - c * (99/7) * k) * (c * (99/7) * x - c * (99/7) * k)) = -(Real.log 2 * (c * c)) * ((99/7)*(99/7)) * ((x-k)*(x-k)) := by ring
  rw [this, hs]
  field_simp

open Classical in
/-- The reference's contribution of a pair. -/
theorem term_ref (k : ℝ) (D : EReal) :
    Ideal.exp ((((-(1/2)) / ((7/99) * (7/99)) : ℝ) : EReal) * ((Ideal.sqrt (if near D then D else ((1 : ℝ) : EReal)) - (k : EReal)) * (Ideal.sqrt (if near D then D else ((1 : ℝ) : EReal)) - (k : EReal))))
      * (if near D then (1 : EReal) else 0) = (tr (sl * k) D : EReal) := by
  by_cases h : near D
  · obtain ⟨p, hp, rfl⟩ := near_coe h
    rw [if_pos h, if_pos h, tr, if_pos h, mul_one, Ideal.sqrt_coe, if_neg (not_lt.mpr hp.le), ← EReal.coe_sub, ← EReal.coe_mul, ← EReal.coe_mul, Ideal.exp_coe, EReal.toReal_coe, two_pow]
  · rw [if_neg h, if_neg h, mul_zero, tr, if_neg h, EReal.coe_zero]

end Cert.Rdf
end
-- ==== Proof.Sums.lean ====
/- Sums over the upper triangle's tiles are half the sums over all pairs; and the quotient by the total does not see the half. -/
module

public import proofs.«01_k».proof.Proof.Math
public import proofs.«01_k».proof.Proof.FinRun

@[expose] public section

noncomputable section

namespace Cert.Rdf

open Idealize.ShloMosaic
open scoped BigOperators

theorem sum_blocks (n m : ℕ) (f : ℕ → ℝ) : ∑ a ∈ Finset.range (n * m), f a = ∑ i ∈ Finset.range n, ∑ r ∈ Finset.range m, f (m * i + r) := by
  induction n with
  | zero => simp
  | succ n ih => rw [Nat.succ_mul, Finset.sum_range_add, ih, Finset.sum_range_succ, Nat.mul_comm n m]

def tileOf (t : Fin 78) : ℕ × ℕ := ((Cert.KernelIdeal.lit0 t).toNat, (Cert.KernelIdeal.lit1 t).toNat)

theorem tileOf_inj : ∀ s t : Fin 78, tileOf s = tileOf t → s = t := by decide +kernel

theorem tileOf_image : Finset.univ.image tileOf = (Finset.range 12 ×ˢ Finset.range 12).filter (fun p => p.1 ≤ p.2) := by decide +kernel

theorem sum_tiles (F : ℕ → ℕ → ℝ) (h0 : ∀ i c, c < i → F i c = 0) :
    ∑ t : Fin 78, F (tileOf t).1 (tileOf t).2 = ∑ i ∈ Finset.range 12, ∑ c ∈ Finset.range 12, F i c := by
  rw [← Finset.sum_product' (Finset.range 12) (Finset.range 12) F]
  have e : ∑ p ∈ Finset.univ.image tileOf, F p.1 p.2 = ∑ t : Fin 78, F (tileOf t).1 (tileOf t).2 := Finset.sum_image fun s _ t _ h => tileOf_inj s t h
  rw [← e, tileOf_image]
  refine Finset.sum_subset (Finset.filter_subset _ _) fun p hp hn => ?_
  refine h0 _ _ (not_le.mp fun hle => hn (Finset.mem_filter.mpr ⟨hp, hle⟩))

/-- All pairs below `n`. -/
def allPairs (n : ℕ) (g : ℕ → ℕ → ℝ) : ℝ := ∑ a ∈ Finset.range n, ∑ b ∈ Finset.range n, g a b

/-- The pairs in order only. -/
def upper (g : ℕ → ℕ → ℝ) (a b : ℕ) : ℝ := if a < b then g a b else 0

/-- One tile's sum of the ordered pairs. -/
def tileSum (g : ℕ → ℕ → ℝ) (t : Fin 78) (l : ℕ) : ℝ := ∑ r ∈ Finset.range 256, upper g (256 * (tileOf t).1 + r) (256 * (tileOf t).2 + l)

theorem tiles_all (g : ℕ → ℕ → ℝ) : ∑ l ∈ Finset.range 256, ∑ t : Fin 78, tileSum g t l = allPairs 3072 (upper g) := by
  rw [Finset.sum_comm]
  have e : ∀ t : Fin 78, ∑ l ∈ Finset.range 256, tileSum g t l = (fun i c => ∑ r ∈ Finset.range 256, ∑ l ∈ Finset.range 256, upper g (256 * i + r) (256 * c + l)) (tileOf t).1 (tileOf t).2 := fun t => by
    unfold tileSum; rw [Finset.sum_comm]
  refine (Finset.sum_congr rfl fun t _ => e t).trans ((sum_tiles (fun i c => ∑ r ∈ Finset.range 256, ∑ l ∈ Finset.range 256, upper g (256 * i + r) (256 * c + l)) ?_).trans ?_)
  rotate_left
  · unfold allPairs
    rw [show 3072 = 12 * 256 by norm_num, sum_blocks 12 256]
    refine Finset.sum_congr rfl fun i _ => ?_
    rw [Finset.sum_comm]
    refine Finset.sum_congr rfl fun r _ => ?_
    rw [sum_blocks 12 256]
  · intro i c hc
    refine Finset.sum_eq_zero fun r hr => Finset.sum_eq_zero fun l hl => ?_
    rw [upper, if_neg]
    have := Finset.mem_range.mp hl
    omega

theorem all_double (n : ℕ) (g : ℕ → ℕ → ℝ) (hs : ∀ a b, g a b = g b a) (hd : ∀ a, g a a = 0) : allPairs n g = allPairs n (upper g) + allPairs n (upper g) := by
  have e : ∀ a b, g a b = upper g a b + upper g b a := fun a b => by
    unfold upper
    rcases lt_trichotomy a b with h | h | h
    · rw [if_pos h, if_neg (by omega), add_zero]
    · subst h; rw [hd]; simp
    · rw [if_neg (by omega), if_pos h, zero_add]; exact hs a b
  have e2 : allPairs n (upper g) = ∑ a ∈ Finset.range n, ∑ b ∈ Finset.range n, upper g b a := Finset.sum_comm
  conv_rhs => rw [e2]
  conv_rhs => lhs; rw [← e2]
  unfold allPairs
  rw [← Finset.sum_add_distrib]
  refine Finset.sum_congr rfl fun a _ => ?_
  rw [← Finset.sum_add_distrib]
  exact Finset.sum_congr rfl fun b _ => e a b

theorem all_cut (g : ℕ → ℕ → ℝ) (n N : ℕ) (h : n ≤ N) (h0 : ∀ a b, a < N → b < N → n ≤ a ∨ n ≤ b → g a b = 0) : allPairs N g = allPairs n g := by
  unfold allPairs
  symm
  have e : ∀ a ∈ Finset.range n, ∑ b ∈ Finset.range n, g a b = ∑ b ∈ Finset.range N, g a b := fun a ha =>
    Finset.sum_subset (Finset.range_mono h) fun b hb hn => h0 a b ((Finset.mem_range.mp ha).trans_le h) (Finset.mem_range.mp hb) (.inr (not_lt.mp fun hl => hn (Finset.mem_range.mpr hl)))
  rw [Finset.sum_congr rfl e]
  refine Finset.sum_subset (Finset.range_mono h) fun a ha hn => Finset.sum_eq_zero fun b hb => ?_
  exact h0 a b (Finset.mem_range.mp ha) (Finset.mem_range.mp hb) (.inl (not_lt.mp fun hl => hn (Finset.mem_range.mpr hl)))

theorem div_double (s N : ℝ) : Ideal.div ((s + s : ℝ) : EReal) ((N + N : ℝ) : EReal) = Ideal.div (s : EReal) (N : EReal) := by
  by_cases hN : N = 0
  · subst hN
    have hz (x : ℝ) : Ideal.div (x : EReal) ((0 : ℝ) : EReal) = if 0 < x then ⊤ else ⊥ := by
      rw [Ideal.div, if_pos EReal.coe_zero]; simp
    rw [add_zero, hz, hz]
    by_cases hs : 0 < s
    · rw [if_pos (by linarith), if_pos hs]
    · rw [if_neg (by linarith), if_neg hs]
  · have h2 : N + N ≠ 0 := fun h => hN (by linarith)
    rw [Ideal.div_coe h2, Ideal.div_coe hN, ← EReal.coe_mul, ← EReal.coe_mul]
    congr 1
    field_simp

/-- A quotient by a ratio of positive reals is a product with the inverse ratio. -/
theorem div_ratio (x : EReal) (u v : ℝ) (hu : 0 < u) (hv : 0 < v) : Ideal.div x ((u / v : ℝ) : EReal) = x * ((v / u : ℝ) : EReal) := by
  rw [Ideal.div_coe (div_pos hu hv).ne', one_div_div]

end Cert.Rdf
end
-- ==== Proof.TileVal.lean ====
/- One tile's scaled distances and one grid point's step, as real sums. -/
module

public import proofs.«01_k».proof.Proof.Sums
public import proofs.«01_k».proof.Proof.HistRun
public import Idealize.ShloMosaic.PureOps.Ideal.Laws

@[expose] public section

noncomputable section

namespace Cert.KernelIdeal.Hist

open Cert.KernelIdeal Cert.KernelIdeal.Gen
open Idealize.ShloMosaic
open Idealize.ShloMosaic.ValueIdx (ix2)
open Cert.Rdf

theorem bits_zero : Ideal.ofBits .f32 0#32 = (0 : EReal) := by simp [Ideal.ofBits, Ideal.ieee]
theorem bits_15 : Ideal.ofBits .f32 0x41700000#32 = ((15 : ℝ) : EReal) := by simp [Ideal.ofBits, Ideal.ieee, -EReal.coe_mul]; norm_num
theorem bits_cut : Ideal.ofBits .f32 0x42610000#32 = ((225/4 : ℝ) : EReal) := by simp [Ideal.ofBits, Ideal.ieee, -EReal.coe_mul]; norm_num
theorem named_sl : Named.named (F := Ideal) κ "sl" (φ := .f32) 0x4140307C#32 = ((sl : ℝ) : EReal) :=
  IdealRules.named_const.ideal_named_scalar _ _ _ _ rfl
theorem named_far : Named.named (F := Ideal) κ "far" (φ := .f32) 0x46EA6000#32 = (⊤ : EReal) :=
  IdealRules.named_const.ideal_named_scalar _ _ _ _ rfl

/-- A block's row `r` and a transposed block's column `l`, as coordinates. -/
def rowOf (x3 : S256x3.Idx → EReal) (r : Fin 256) (j : ℕ) : EReal := if h : j < 3 then x3 (ix2 r ⟨j, h⟩) else 0
def colOf (x4 : S3x256.Idx → EReal) (l : Fin 256) (j : ℕ) : EReal := if h : j < 3 then x4 (ix2 ⟨j, h⟩ l) else 0

theorem row_bc (x3 : S256x3.Idx → EReal) (j : Fin 3) (inb : ∀ a, ![0, j.val] a + S256x1.size a ≤ S256x3.size a)
    (h1 : S256x1.ShapeCasts S256) (h2 : S256.ShapeCasts S256x1) (hb : S256x1.Broadcasts S256x256) (r l : Fin 256) :
    broadcastTo S256x256 (shapeCast S256x1 (shapeCast S256 (View.ld (Val := Elt Ideal) (e' := .f32) x3 (Rect.unit (s := S256x3) ![0, j.val] S256x1.size inb)) h1) h2) hb (ix2 r l) = x3 (ix2 r j) := by
  rw [shapeCast_shapeCast]
  refine (broadcastTo_apply _ _ _ (ix2 r 0) (fun a => by fin_cases a <;> rfl)).trans ?_
  unfold View.ld
  congr 1
  funext a; fin_cases a <;> apply Fin.ext <;> simp [Rect.unit, Rect.emb_apply, ix2]

theorem col_bc (x4 : S3x256.Idx → EReal) (j : Fin 3) (inb : ∀ a, ![j.val, 0] a + S1x256.size a ≤ S3x256.size a)
    (h1 : S1x256.ShapeCasts S256) (h2 : S256.ShapeCasts S1x256) (hb : S1x256.Broadcasts S256x256) (r l : Fin 256) :
    broadcastTo S256x256 (shapeCast S1x256 (shapeCast S256 (View.ld (Val := Elt Ideal) (e' := .f32) x4 (Rect.unit (s := S3x256) ![j.val, 0] S1x256.size inb)) h1) h2) hb (ix2 r l) = x4 (ix2 j l) := by
  rw [shapeCast_shapeCast]
  refine (broadcastTo_apply _ _ _ (ix2 0 l) (fun a => by fin_cases a <;> rfl)).trans ?_
  unfold View.ld
  congr 1
  funext a; fin_cases a <;> apply Fin.ext <;> simp [Rect.unit, Rect.emb_apply, ix2]

theorem v50_at (x3 : S256x3.Idx → EReal) (x4 : S3x256.Idx → EReal) (r l : Fin 256) :
    v50Val (F := Ideal) x3 x4 (ix2 r l) = (0 + mi (x3 (ix2 r 0)) (x4 (ix2 0 l)) * mi (x3 (ix2 r 0)) (x4 (ix2 0 l))) + mi (x3 (ix2 r 1)) (x4 (ix2 1 l)) * mi (x3 (ix2 r 1)) (x4 (ix2 1 l)) := by
  unfold v50Val k0_pay4
  have r0 := row_bc x3 0 inb_S256x3_S256x1_0_0 shapeCasts_S256x1_S256 shapeCasts_S256_S256x1 broadcasts_S256x1_S256x256 r l
  have c0 := col_bc x4 0 inb_S3x256_S1x256_0_0 shapeCasts_S1x256_S256 shapeCasts_S256_S1x256 broadcasts_S1x256_S256x256 r l
  have r1 := row_bc x3 1 inb_S256x3_S256x1_0_1 shapeCasts_S256x1_S256 shapeCasts_S256_S256x1 broadcasts_S256x1_S256x256 r l
  have c1 := col_bc x4 1 inb_S3x256_S1x256_1_0 shapeCasts_S1x256_S256 shapeCasts_S256_S1x256 broadcasts_S1x256_S256x256 r l
  rw [← r0, ← c0, ← r1, ← c1]
  unfold mi ad
  rw [← bits_15, ← bits_zero]
  rfl

theorem v63_at (x3 : S256x3.Idx → EReal) (x4 : S3x256.Idx → EReal) (r l : Fin 256) :
    v63Val (F := Ideal) x3 x4 (ix2 r l) = mi (x3 (ix2 r 2)) (x4 (ix2 2 l)) := by
  unfold v63Val k0_pay5
  have r0 := row_bc x3 2 inb_S256x3_S256x1_0_2 shapeCasts_S256x1_S256 shapeCasts_S256_S256x1 broadcasts_S256x1_S256x256 r l
  have c0 := col_bc x4 2 inb_S3x256_S1x256_2_0 shapeCasts_S1x256_S256 shapeCasts_S256_S1x256 broadcasts_S1x256_S256x256 r l
  rw [← r0, ← c0]
  unfold mi ad
  rw [← bits_15]
  rfl

theorem pd_at (x3 : S256x3.Idx → EReal) (x4 : S3x256.Idx → EReal) (r l : Fin 256) :
    v50Val (F := Ideal) x3 x4 (ix2 r l) + v63Val (F := Ideal) x3 x4 (ix2 r l) * v63Val (F := Ideal) x3 x4 (ix2 r l) = pd (rowOf x3 r) (colOf x4 l) := by
  rw [v50_at, v63_at]
  rfl

theorem near_bit (D : EReal) : IntOp.andi (Ideal.cmp .olt D ((225/4 : ℝ) : EReal)) (Ideal.cmp .ogt D 0) = 1#1 ↔ near D := by
  unfold near Ideal.cmp IntOp.andi
  by_cases h1 : D < ((225/4 : ℝ) : EReal) <;> by_cases h2 : 0 < D <;> simp [h1, h2]

theorem pay2_at (v50 v63 : FVec Ideal S256x256 .f32) (y : S256x256.Idx) : k0_pay2 (F := Ideal) v50 v63 y = dsc (v50 y + v63 y * v63 y) := by
  unfold k0_pay2
  rw [shapeCast_self]
  have hc : ∀ D : EReal, dsc D = if IntOp.andi (Ideal.cmp .olt D ((225/4 : ℝ) : EReal)) (Ideal.cmp .ogt D 0) = 1#1 then (sl : EReal) * Ideal.sqrt D else ⊤ := fun D => by
    unfold dsc
    by_cases h : near D
    · rw [if_pos h, if_pos ((near_bit D).mpr h)]
    · rw [if_neg h, if_neg (fun h' => h ((near_bit D).mp h'))]
  rw [hc, ← bits_cut, ← bits_zero, ← named_sl, ← named_far]
  rfl

theorem pay3_at (w1 w2 : BitVec 32) (v50 v63 : FVec Ideal S256x256 .f32) (r l : Fin 256) (hw1 : w1.toNat < 12) (hw2 : w2.toNat < 12) :
    k0_pay3 (F := Ideal) w1 w2 v50 v63 (ix2 r l) = if 256 * w1.toNat + r.val < 256 * w2.toNat + l.val then dsc (v50 (ix2 r l) + v63 (ix2 r l) * v63 (ix2 r l)) else ⊤ := by
  unfold k0_pay3
  rw [shapeCast_self]
  have hi : IntOp.cmpi .sgt (w2 * 256#32 + BitVec.ofNat 32 (0 * 256 + l.val)) (w1 * 256#32 + BitVec.ofNat 32 (0 * 256 + r.val)) = 1#1 ↔ 256 * w1.toNat + r.val < 256 * w2.toNat + l.val := by
    have hr := r.isLt
    have hl := l.isLt
    have e1 : (w1 * 256#32 + BitVec.ofNat 32 (0 * 256 + r.val)).toNat = 256 * w1.toNat + r.val := by
      simp only [BitVec.toNat_add, BitVec.toNat_mul, BitVec.toNat_ofNat]; omega
    have e2 : (w2 * 256#32 + BitVec.ofNat 32 (0 * 256 + l.val)).toNat = 256 * w2.toNat + l.val := by
      simp only [BitVec.toNat_add, BitVec.toNat_mul, BitVec.toNat_ofNat]; omega
    unfold IntOp.cmpi
    simp only [BitVec.slt]
    rw [BitVec.toInt_eq_toNat_of_lt (by rw [e1]; omega), BitVec.toInt_eq_toNat_of_lt (by rw [e2]; omega), e1, e2]
    by_cases h : 256 * w1.toNat + r.val < 256 * w2.toNat + l.val
    · simp only [h, iff_true]; rw [decide_eq_true (by exact_mod_cast h)]; rfl
    · simp only [h, iff_false]; rw [decide_eq_false (by exact_mod_cast h)]; decide
  have hc : ∀ D : EReal, (if 256 * w1.toNat + r.val < 256 * w2.toNat + l.val then dsc D else ⊤) = if IntOp.andi (IntOp.andi (Ideal.cmp .olt D ((225/4 : ℝ) : EReal)) (Ideal.cmp .ogt D 0)) (IntOp.cmpi .sgt (w2 * 256#32 + BitVec.ofNat 32 (0 * 256 + l.val)) (w1 * 256#32 + BitVec.ofNat 32 (0 * 256 + r.val))) = 1#1 then (sl : EReal) * Ideal.sqrt D else ⊤ := fun D => by
    have hb : ∀ a b : BitVec 1, IntOp.andi a b = 1#1 ↔ a = 1#1 ∧ b = 1#1 := by decide
    unfold dsc
    by_cases h : near D <;> by_cases h' : 256 * w1.toNat + r.val < 256 * w2.toNat + l.val
    · rw [if_pos h', if_pos h, if_pos ((hb _ _).mpr ⟨(near_bit D).mpr h, hi.mpr h'⟩)]
    · rw [if_neg h', if_neg (fun e => h' (hi.mp ((hb _ _).mp e).2))]
    · rw [if_pos h', if_neg h, if_neg (fun e => h ((near_bit D).mp ((hb _ _).mp e).1))]
    · rw [if_neg h', if_neg (fun e => h' (hi.mp ((hb _ _).mp e).2))]
  rw [hc, ← bits_cut, ← bits_zero, ← named_sl, ← named_far]
  rfl

/-- A tile's scaled distances: of its pairs in order, the distance where the pair counts, infinity elsewhere. -/
theorem dsc_at (w1 w2 : BitVec 32) (x3 : S256x3.Idx → EReal) (x4 : S3x256.Idx → EReal) (r l : Fin 256) (hw1 : w1.toNat < 12) (hw2 : w2.toNat < 12) (hle : w1.toNat ≤ w2.toNat) :
    dscVal (F := Ideal) w1 w2 x3 x4 (ix2 r l) = if 256 * w1.toNat + r.val < 256 * w2.toNat + l.val then dsc (pd (rowOf x3 r) (colOf x4 l)) else ⊤ := by
  unfold dscVal
  split
  · rw [pay3_at w1 w2 _ _ r l hw1 hw2, pd_at]
  · rename_i h
    rw [pay2_at, pd_at, if_pos]
    have hr := r.isLt
    have hl := l.isLt
    by_contra hn
    apply h
    have e : w1 = w2 := by apply BitVec.eq_of_toNat_eq; omega
    subst e
    have : ∀ n : Fin 12, Scalar.cmpi .slt (Scalar.muli (BitVec.ofNat 32 n.val) 256#32) (Scalar.muli (Scalar.addi (BitVec.ofNat 32 n.val) 1#32) 256#32) = 1#1 := by decide
    have h2 := this ⟨w1.toNat, hw1⟩
    rwa [show BitVec.ofNat 32 w1.toNat = w1 from by simp] at h2

/-- The term of one entry of the scratch at a bin. -/
theorem term_at (o : ℝ) (P : Prop) [Decidable P] (D : EReal) :
    term (F := Ideal) (o : EReal) (if P then dsc D else (⊤ : EReal)) = ((if P then tr o D else 0 : ℝ) : EReal) := by
  show Ideal.exp2 (Ideal.ofBits .f32 0#32 - ((if P then dsc D else (⊤ : EReal)) - (o : EReal)) * ((if P then dsc D else (⊤ : EReal)) - (o : EReal))) = _
  rw [bits_zero]
  by_cases h : P
  · rw [if_pos h, if_pos h]; exact term_dsc o D
  · rw [if_neg h, if_neg h]; exact term_top o

/-- The trips of one grid point add the rows one after the other. -/
theorem loop_at (o : S104x256.Idx → EReal) (d : S256x256.Idx → EReal) (a : S104x256.Idx → EReal) (y : S104x256.Idx) (A : ℝ) (T : ℕ → ℝ)
    (ha : a y = (A : EReal)) (hT : ∀ r : Fin 256, term (F := Ideal) (o y) (d (ix2 r ⟨(y 1).val, Idealize.ShloMosaic.ValueIdx.idx2_lt1 y⟩)) = (T r.val : EReal)) (n : ℕ) (hn : n ≤ 128) :
    loopVal (F := Ideal) o d n a y = ((A + ∑ r ∈ Finset.range (2 * n), T r : ℝ) : EReal) := by
  induction n with
  | zero => simpa [loopVal] using ha
  | succ n ih =>
    have hn' : n < 128 := hn
    rw [loopVal, dif_pos hn']
    show loopVal (F := Ideal) o d n a y + (term (F := Ideal) (o y) (d (ix2 ⟨2 * n, by omega⟩ ⟨(y 1).val, Idealize.ShloMosaic.ValueIdx.idx2_lt1 y⟩)) + term (F := Ideal) (o y) (d (ix2 ⟨2 * n + 1, by omega⟩ ⟨(y 1).val, Idealize.ShloMosaic.ValueIdx.idx2_lt1 y⟩))) = _
    rw [ih (by omega), hT, hT, ← EReal.coe_add, ← EReal.coe_add]
    congr 1
    rw [show 2 * (n + 1) = 2 * n + 1 + 1 by ring, Finset.sum_range_succ, Finset.sum_range_succ]
    ring

end Cert.KernelIdeal.Hist
end
-- ==== Proof.AccVal.lean ====
/- The accumulated histogram over the real numbers: at each entry the sum over the tiles seen so far. -/
module

public import proofs.«01_k».proof.Proof.BlockVal
public import proofs.«01_k».proof.Proof.TileVal
public import proofs.«01_k».proof.Proof.Sums

@[expose] public section

noncomputable section

namespace Cert.KernelIdeal.Hist

open Cert.KernelIdeal Cert.KernelIdeal.Gen Cert.Rdf
open Idealize.ShloMosaic Idealize.ShloMosaic.TcCoe
open Idealize.ShloMosaic.ValueIdx

theorem lit_le : ∀ n : Fin 78, (lit0 n).toNat ≤ (lit1 n).toNat := by decide

theorem pay1_zero (y : S104x256.Idx) : k0_pay1 (F := Ideal) y = ((0 : ℝ) : EReal) := by
  show Ideal.ofBits .f32 0#32 = _
  rw [bits_zero]; rfl

/-- One pair's share of bin offset `o`, the atoms' coordinates given by `X`. -/
def pairTerm (X : ℕ → ℕ → EReal) (o : ℝ) (a b : ℕ) : ℝ := tr o (pd (X a) (X b))

/-- The share of tile `t` in column `l`. -/
def tileAt (X : ℕ → ℕ → EReal) (o : ℝ) (l t : ℕ) : ℝ := if h : t < 78 then tileSum (pairTerm X o) ⟨t, h⟩ l else 0

variable (c : Dev nD) (V : Valuation τ sig (Elt Ideal)) (X : ℕ → ℕ → EReal) (o : ℝ)
  (hX : ∀ (a : Fin 3072) (j : Fin 3), V (Proc.devRef .tc main_v2) (ix2 a j) = X a.val j.val)
  (hXt : ∀ (a : Fin 3072) (j : Fin 3), V (Proc.devRef .tc main_v3) (ix2 j a) = X a.val j.val)
  (k : Fin 104) (l : Fin 256) (ho : V (Proc.devRef .tc main_v19) (ix2 k l) = (o : EReal))

include hX in
theorem row_held (n : ℕ) (h : n < grid0.N) (p : Fin 78) (hp : grid0.coords ⟨n, h⟩ 0 = p) (r : Fin 256) (j : Fin 3) :
    Pipeline.heldIn (cfg0 a0) (A0 a0 c V) 0 n h (ix2 r j) = X (256 * (lit0 p).toNat + r.val) j.val := by
  have hl := lit0_lt p
  have hr := r.isLt
  subst hp
  refine (held0 c V n h (ix2 r j) (ix2 ⟨256 * (lit0 (grid0.coords ⟨n, h⟩ 0)).toNat + r.val, by omega⟩ j) rfl rfl).trans ?_
  exact hX _ j

include hXt in
theorem col_held (n : ℕ) (h : n < grid0.N) (p : Fin 78) (hp : grid0.coords ⟨n, h⟩ 0 = p) (r : Fin 256) (j : Fin 3) :
    Pipeline.heldIn (cfg0 a0) (A0 a0 c V) 1 n h (ix2 j r) = X (256 * (lit1 p).toNat + r.val) j.val := by
  have hl := lit1_lt p
  have hr := r.isLt
  subst hp
  refine (held1 c V n h (ix2 j r) (ix2 j ⟨256 * (lit1 (grid0.coords ⟨n, h⟩ 0)).toNat + r.val, by omega⟩) rfl rfl).trans ?_
  exact hXt _ j

include hX hXt in
theorem pd_held (n : ℕ) (h : n < grid0.N) (p : Fin 78) (hp : grid0.coords ⟨n, h⟩ 0 = p) (r s : Fin 256) :
    pd (rowOf (Pipeline.heldIn (cfg0 a0) (A0 a0 c V) 0 n h) r) (colOf (Pipeline.heldIn (cfg0 a0) (A0 a0 c V) 1 n h) s)
      = pd (X (256 * (lit0 p).toNat + r.val)) (X (256 * (lit1 p).toNat + s.val)) := by
  have e0 : ∀ j, j < 3 → rowOf (Pipeline.heldIn (cfg0 a0) (A0 a0 c V) 0 n h) r j = X (256 * (lit0 p).toNat + r.val) j := fun j hj => by
    unfold rowOf
    rw [dif_pos hj]; exact row_held c V X hX n h p hp r ⟨j, hj⟩
  have e1 : ∀ j, j < 3 → colOf (Pipeline.heldIn (cfg0 a0) (A0 a0 c V) 1 n h) s j = X (256 * (lit1 p).toNat + s.val) j := fun j hj => by
    unfold colOf
    rw [dif_pos hj]; exact col_held c V X hXt n h p hp s ⟨j, hj⟩
  unfold pd
  rw [e0 0 (by decide), e0 1 (by decide), e0 2 (by decide), e1 0 (by decide), e1 1 (by decide), e1 2 (by decide)]

include hX hXt ho in
/-- One grid point adds its tile. -/
theorem step_at (n : ℕ) (h : n < grid0.N) (h78 : n < 78) (a : S104x256.Idx → EReal) (A : ℝ)
    (ha : (if n = 0 then k0_pay1 (F := Ideal) else a) (ix2 k l) = (A : EReal)) :
    stepVal (F := Ideal) (grid0.coords ⟨n, h⟩) (tab1 (F := Ideal) a0 (grid0.coords ⟨n, h⟩)) (tab2 (F := Ideal) a0 (grid0.coords ⟨n, h⟩))
      (Pipeline.heldIn (cfg0 a0) (A0 a0 c V) 0 n h) (Pipeline.heldIn (cfg0 a0) (A0 a0 c V) 1 n h) (Pipeline.heldIn (cfg0 a0) (A0 a0 c V) 2 n h) a (ix2 k l)
      = ((A + tileAt X o l.val n : ℝ) : EReal) := by
  have hc : grid0.coords ⟨n, h⟩ 0 = (⟨n, h78⟩ : Fin 78) := Fin.ext (coords0 ⟨n, h⟩)
  have hpd := pd_held c V X hX hXt n h ⟨n, h78⟩ hc
  have t1 : tab1 (F := Ideal) a0 (grid0.coords ⟨n, h⟩) = lit0 ⟨n, h78⟩ := (tab1_eq _).trans (congrArg lit0 hc)
  have t2 : tab2 (F := Ideal) a0 (grid0.coords ⟨n, h⟩) = lit1 ⟨n, h78⟩ := (tab2_eq _).trans (congrArg lit1 hc)
  have hv : (grid0.coords ⟨n, h⟩ 0).val = n := coords0 ⟨n, h⟩
  have e : tileAt X o l.val n = ∑ r ∈ Finset.range (2 * 128), upper (pairTerm X o) (256 * (lit0 ⟨n, h78⟩).toNat + r) (256 * (lit1 ⟨n, h78⟩).toNat + l.val) := by
    unfold tileAt tileSum tileOf
    rw [dif_pos h78]
  unfold stepVal
  rw [t1, t2, held2, hv, e]
  refine loop_at _ _ _ (ix2 k l) A (fun r => upper (pairTerm X o) (256 * (lit0 ⟨n, h78⟩).toNat + r) (256 * (lit1 ⟨n, h78⟩).toNat + l.val)) ha (fun r => ?_) 128 (le_refl _)
  rw [ho]
  have hd := dsc_at (lit0 ⟨n, h78⟩) (lit1 ⟨n, h78⟩) (Pipeline.heldIn (cfg0 a0) (A0 a0 c V) 0 n h) (Pipeline.heldIn (cfg0 a0) (A0 a0 c V) 1 n h) r l (lit0_lt _) (lit1_lt _) (lit_le _)
  rw [hpd] at hd
  exact (congrArg (term (F := Ideal) (o : EReal)) hd).trans (term_at o _ _)

include hX hXt ho in
theorem acc_at : ∀ (n : ℕ) (h : n < grid0.N), acc (F := Ideal) a0 c V n h (ix2 k l) = ((∑ t ∈ Finset.range (n + 1), tileAt X o l.val t : ℝ) : EReal) := by
  intro n
  induction n with
  | zero =>
    intro h
    unfold acc
    rw [step_at c V X o hX hXt k l ho 0 h (by decide) _ 0 (by rw [if_pos rfl]; exact pay1_zero _)]
    simp
  | succ n ih =>
    intro h
    have h78 : n + 1 < 78 := h
    unfold acc
    rw [step_at c V X o hX hXt k l ho (n + 1) h h78 _ _ (by rw [if_neg (Nat.succ_ne_zero n)]; exact ih (Nat.lt_of_succ_lt h)), Finset.sum_range_succ _ (n + 1)]

include hX hXt ho in
theorem acc_end (h : 77 < grid0.N) : acc (F := Ideal) a0 c V 77 h (ix2 k l) = ((∑ t : Fin 78, tileSum (pairTerm X o) t l.val : ℝ) : EReal) := by
  rw [acc_at c V X o hX hXt k l ho 77 h, Finset.sum_range]
  refine congrArg _ ?_
  refine Finset.sum_congr rfl fun t _ => ?_
  unfold tileAt
  rw [dif_pos t.isLt]

end Cert.KernelIdeal.Hist
-- ==== Proof.FinVal.lean ====
/- The closing division over the real numbers: each bin's row is summed and divided by the sum of all rows. -/
module

public import proofs.«01_k».proof.Proof.FinRun
public import Idealize.ShloMosaic.Lib.Pointwise

@[expose] public section

noncomputable section

namespace Cert.KernelIdeal.Hist

open Cert.KernelIdeal Cert.KernelIdeal.Gen
open Idealize.ShloMosaic Idealize.ShloMosaic.TcCoe

theorem real_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem rows100_at (x : FVec Ideal S104x256 .f32) (k : Fin 100) (l : Fin 256) : rows100 (F := Ideal) x (ix2 k l) = x (ix2 ⟨k.val, by omega⟩ l) := by
  unfold rows100 View.ld
  congr 1
  funext d
  fin_cases d <;> exact Fin.ext (by simp [Rect.unit, Rect.emb_apply])

theorem pay_at (x : FVec Ideal S100x256 .f32) (k : Fin 100) :
    k1_pay1 (F := Ideal) x (ix2 0 k) = Ideal.div (∑ l : Fin 256, x (ix2 k l)) (∑ i : Fin 100, ∑ l : Fin 256, x (ix2 i l)) := by
  pointwise [k1_pay1]
  congr 1
  exact Fintype.sum_unique _

theorem cnt_at (x : FVec Ideal S104x256 .f32) (s : ℕ → ℕ → ℝ) (hx : ∀ (k : Fin 100) (l : Fin 256), x (ix2 ⟨k.val, by omega⟩ l) = ((s k.val l.val : ℝ) : EReal)) (k : Fin 100) :
    cntVal (F := Ideal) x (ix2 0 k) = Ideal.div ((∑ l : Fin 256, s k.val l.val : ℝ) : EReal) ((∑ i : Fin 100, ∑ l : Fin 256, s i.val l.val : ℝ) : EReal) := by
  unfold cntVal
  rw [pay_at]
  simp only [rows100_at, hx, real_sum]

theorem rdf_val_at (x : FVec Ideal S104x256 .f32) (y : FVec Ideal S1x100 .f32) (k : Fin 100) :
    rdfVal (F := Ideal) x y (ix2 0 k) = cntVal (F := Ideal) x (ix2 0 k) * y (ix2 0 k) := by
  unfold rdfVal k1_pay2
  rw [shapeCast_self]
  rfl

end Cert.KernelIdeal.Hist
-- ==== Proof.RefVal.lean ====
/- The reference's values over the real numbers: the squared distances, one bin's total over all pairs, the
   normalised counts and the ratio to the uniform density. -/
module

public import proofs.«01_k».proof.Proof.Gen.ReferenceIdeal.Run
public import proofs.«01_k».proof.Proof.Sums
public import Idealize.ShloMosaic.Lib.Pointwise

@[expose] public section

noncomputable section

namespace Cert.ReferenceIdeal.Rdf

open Cert.ReferenceIdeal Cert.ReferenceIdeal.Gen Cert.Rdf
open Idealize.ShloMosaic Idealize.ShloMosaic.TcCoe

variable (x : FVec Ideal S3000x3 .f32)

/-- The differences of all pairs of atoms. -/
def dis : FVec Ideal S3000x3000x3 .f32 :=
  subf (broadcastInDim S3000x3000x3 ![0, 1, 2] bcast_S1x3000x3_S3000x3000x3_0_1_2 (broadcastInDim S1x3000x3 ![1, 2] bcast_S3000x3_S1x3000x3_1_2 x)) (broadcastInDim S3000x3000x3 ![0, 1, 2] bcast_S3000x1x3_S3000x3000x3_0_1_2 (broadcastInDim S3000x1x3 ![0, 2] bcast_S3000x3_S3000x1x3_0_2 x))

/-- The differences shifted to the nearest image. -/
def shifted : FVec Ideal S3000x3000x3 .f32 :=
  addf (dis x) (mulf (addf (Host.negf (uitofp .f32 (cmpf .oge (dis x) (broadcastInDim S3000x3000x3 ![] bcast_S_S3000x3000x3 (constant S_ .f32 0x40F00000#32))))) (uitofp .f32 (cmpf .olt (dis x) (broadcastInDim S3000x3000x3 ![] bcast_S_S3000x3000x3 (constant S_ .f32 0xC0F00000#32))))) (broadcastInDim S3000x3000x3 ![] bcast_S_S3000x3000x3 (constant S_ .f32 0x41700000#32)))

/-- The squared distances. -/
def dsq : FVec Ideal S3000x3000 .f32 := Host.reduceAdd (mulf (shifted x) (shifted x)) (constant S_ .f32 0x00000000#32) reducesTo_S3000x3000x3_S3000x3000_d2 h_S_

def mask : IVec S3000x3000 1 :=
  andi (cmpf .olt (dsq x) (broadcastInDim S3000x3000 ![] bcast_S_S3000x3000 (constant S_ .f32 0x42610000#32))) (cmpf .ogt (dsq x) (broadcastInDim S3000x3000 ![] bcast_S_S3000x3000 (constant S_ .f32 0x00000000#32)))

def dist : FVec Ideal S3000x3000 .f32 := Host.sqrt (select (mask x) (dsq x) (broadcastInDim S3000x3000 ![] bcast_S_S3000x3000 (id (constant S_ .f32 0x3F800000#32))))

def width : FVec Ideal S_ .f32 := Host.divf (constant S_ .f32 0x40E00000#32) (constant S_ .f32 0x42C60000#32)

def offs : FVec Ideal S100 .f32 := mulf (sitofp .f32 (iotaInDim S100 32 0)) (broadcastInDim S100 ![] bcast_S_S100 width)

def coef : FVec Ideal S_ .f32 := Host.divf (constant S_ .f32 0xBF000000#32) (mulf width width)

def away : FVec Ideal S3000x3000x100 .f32 :=
  subf (broadcastInDim S3000x3000x100 ![0, 1, 2] bcast_S3000x3000x1_S3000x3000x100_0_1_2 (broadcastInDim S3000x3000x1 ![0, 1] bcast_S3000x3000_S3000x3000x1_0_1 (dist x))) (broadcastInDim S3000x3000x100 ![0, 1, 2] bcast_S1x1x100_S3000x3000x100_0_1_2 (broadcastInDim S1x1x100 ![2] bcast_S100_S1x1x100_2 offs))

/-- Each pair's share of each bin. -/
def share : FVec Ideal S3000x3000x100 .f32 :=
  mulf (Host.exp (mulf (broadcastInDim S3000x3000x100 ![] bcast_S_S3000x3000x100 coef) (mulf (away x) (away x)))) (broadcastInDim S3000x3000x100 ![0, 1, 2] bcast_S3000x3000x1_S3000x3000x100_0_1_2 (broadcastInDim S3000x3000x1 ![0, 1] bcast_S3000x3000_S3000x3000x1_0_1 (uitofp .f32 (mask x))))

def bins : FVec Ideal S100 .f32 := Host.reduceAdd (share x) (constant S_ .f32 0x00000000#32) reducesTo_S3000x3000x100_S100_d0_1 h_S_

def count : FVec Ideal S100 .f32 := Host.divf (bins x) (broadcastInDim S100 ![] bcast_S_S100 (Host.reduceAdd (bins x) (constant S_ .f32 0x00000000#32) reducesTo_S100_S_d0 h_S_))

/-- The bins' edges, the shells' volumes over the ball's. -/
def edge : FVec Ideal S101 .f32 := Host.divf (mulf (sitofp .f32 (iotaInDim S101 32 0)) (broadcastInDim S101 ![] bcast_S_S101 (constant S_ .f32 0x40E00000#32))) (broadcastInDim S101 ![] bcast_S_S101 (constant S_ .f32 0x42C80000#32))
def hi : FVec Ideal S100 .f32 := extractStridedSlice S100 ![1] edge slices_S101_S100_1
def lo : FVec Ideal S100 .f32 := extractStridedSlice S100 ![0] edge slices_S101_S100_0
def shell : FVec Ideal S100 .f32 := mulf (broadcastInDim S100 ![] bcast_S_S100 (constant S_ .f32 0x40860A92#32)) (subf (mulf (mulf hi hi) hi) (mulf (mulf lo lo) lo))
def frac : FVec Ideal S100 .f32 := Host.divf shell (broadcastInDim S100 ![] bcast_S_S100 (mulf (constant S_ .f32 0x40860A92#32) (mulf (mulf (constant S_ .f32 0x40E00000#32) (constant S_ .f32 0x40E00000#32)) (constant S_ .f32 0x40E00000#32))))

set_option maxRecDepth 8192 in
theorem res_count (m : (ℓ : Loc nD τ sig) → Buf (Elt Ideal) ℓ) (c : Dev nD) :
    Value.res_main_v48 (F := Ideal) m c = count (m ((c.tc : Thread nD τ).loc main_arg0)) := rfl

set_option maxRecDepth 8192 in
theorem res_rdf (m : (ℓ : Loc nD τ sig) → Buf (Elt Ideal) ℓ) (c : Dev nD) :
    Value.res_main_v69 (F := Ideal) m c = Host.divf (count (m ((c.tc : Thread nD τ).loc main_arg0))) frac := rfl

/-! ## Read at an index -/

theorem bits_zero : Ideal.ofBits .f32 0#32 = (0 : EReal) := by simp [Ideal.ofBits, Ideal.ieee]
theorem bits_15 : Ideal.ofBits .f32 0x41700000#32 = ((15 : ℝ) : EReal) := by simp [Ideal.ofBits, Ideal.ieee, -EReal.coe_mul]; norm_num
theorem bits_half_box : Ideal.ofBits .f32 0x40F00000#32 = ((15/2 : ℝ) : EReal) := by simp [Ideal.ofBits, Ideal.ieee, -EReal.coe_mul]; norm_num
theorem bits_neg_half_box : Ideal.ofBits .f32 0xC0F00000#32 = ((-(15/2) : ℝ) : EReal) := by simp [Ideal.ofBits, Ideal.ieee, -EReal.coe_mul]; norm_num
theorem bits_cut : Ideal.ofBits .f32 0x42610000#32 = ((225/4 : ℝ) : EReal) := by simp [Ideal.ofBits, Ideal.ieee, -EReal.coe_mul]; norm_num
theorem bits_one : Ideal.ofBits .f32 0x3F800000#32 = ((1 : ℝ) : EReal) := by simp [Ideal.ofBits, Ideal.ieee, -EReal.coe_mul]; norm_num
theorem bits_7 : Ideal.ofBits .f32 0x40E00000#32 = ((7 : ℝ) : EReal) := by simp [Ideal.ofBits, Ideal.ieee, -EReal.coe_mul]; norm_num
theorem bits_99 : Ideal.ofBits .f32 0x42C60000#32 = ((99 : ℝ) : EReal) := by simp [Ideal.ofBits, Ideal.ieee, -EReal.coe_mul]; norm_num
theorem bits_100 : Ideal.ofBits .f32 0x42C80000#32 = ((100 : ℝ) : EReal) := by simp [Ideal.ofBits, Ideal.ieee, -EReal.coe_mul]; norm_num
theorem bits_neg_half : Ideal.ofBits .f32 0xBF000000#32 = ((-(1/2) : ℝ) : EReal) := by simp [Ideal.ofBits, Ideal.ieee, -EReal.coe_mul]; norm_num

theorem dis_at (a b : Fin 3000) (j : Fin 3) : dis x (ix3 a b j) = x (ix2 b j) - x (ix2 a j) := by
  pointwise [dis]

theorem bit_real (p : Prop) [Decidable p] : FloatOps.uitofp (F := Ideal) .f32 (BitVec.ofBool (decide p)) = if p then (1 : EReal) else 0 := by
  by_cases hp : p
  · rw [if_pos hp, decide_eq_true hp]; show (((1#1).toNat : ℝ) : EReal) = 1; simp
  · rw [if_neg hp, decide_eq_false hp]; show (((0#1).toNat : ℝ) : EReal) = 0; simp

theorem shifted_at (a b : Fin 3000) (j : Fin 3) : shifted x (ix3 a b j) = sh (x (ix2 b j)) (x (ix2 a j)) := by
  pointwise [shifted, dis_at]
  unfold sh
  rw [bits_15, bits_half_box, bits_neg_half_box]
  rw [bit_real, bit_real]

/-- Atom `a`'s coordinate `j`, the table going on past its end with the padding's. -/
def atom (a j : ℕ) : EReal := if h : a < 3000 then (if h' : j < 3 then x (ix2 ⟨a, h⟩ ⟨j, h'⟩) else 0) else ((1000000 : ℝ) : EReal)

theorem atom_at (a : Fin 3000) (j : Fin 3) : atom x a.val j.val = x (ix2 a j) := by
  unfold atom; rw [dif_pos a.isLt, dif_pos j.isLt]

theorem dsq_at (a b : Fin 3000) : dsq x (ix2 a b) = pd (atom x a.val) (atom x b.val) := by
  pointwise [dsq, shifted_at]
  rw [Fin.sum_univ_three, ← sq_mi, ← sq_mi, ← sq_mi, pd_comm]
  unfold pd
  rw [zero_add, ← atom_at x a, ← atom_at x a, ← atom_at x a, ← atom_at x b, ← atom_at x b, ← atom_at x b]
  rfl

theorem mask_at (a b : Fin 3000) : mask x (ix2 a b) = 1#1 ↔ near (pd (atom x a.val) (atom x b.val)) := by
  pointwise [mask, dsq_at]
  rw [bits_cut]
  unfold near
  by_cases h1 : pd (atom x a.val) (atom x b.val) < ((225/4 : ℝ) : EReal) <;> by_cases h2 : 0 < pd (atom x a.val) (atom x b.val) <;> simp [h1, h2, IntOp.andi]

open Classical in
theorem mask_bit (a b : Fin 3000) : mask x (ix2 a b) = if near (pd (atom x a.val) (atom x b.val)) then 1#1 else 0#1 := by
  by_cases h : near (pd (atom x a.val) (atom x b.val))
  · rw [if_pos h]; exact (mask_at x a b).mpr h
  · rw [if_neg h]
    have := mt (mask_at x a b).mp h
    revert this
    generalize mask x (ix2 a b) = w
    revert w
    decide

open Classical in
theorem dist_at (a b : Fin 3000) : dist x (ix2 a b) = Ideal.sqrt (if near (pd (atom x a.val) (atom x b.val)) then pd (atom x a.val) (atom x b.val) else ((1 : ℝ) : EReal)) := by
  pointwise [dist, dsq_at, mask_bit]
  congr 1
  by_cases h : near (pd (atom x a.val) (atom x b.val))
  · rw [if_pos h, if_pos h]; rfl
  · rw [if_neg h, if_neg h]; exact bits_one

theorem width_at (j : S_.Idx) : width j = ((7/99 : ℝ) : EReal) := by
  show Ideal.div (Ideal.ofBits .f32 0x40E00000#32) (Ideal.ofBits .f32 0x42C60000#32) = _
  rw [bits_7, bits_99, Ideal.div_coe (by norm_num), ← EReal.coe_mul]
  congr 1; norm_num

theorem coef_at (j : S_.Idx) : coef j = (((-(1/2)) / ((7/99) * (7/99)) : ℝ) : EReal) := by
  show Ideal.div (Ideal.ofBits .f32 0xBF000000#32) (width j * width j) = _
  rw [width_at, bits_neg_half, ← EReal.coe_mul, Ideal.div_coe (by norm_num), ← EReal.coe_mul]
  congr 1; norm_num

theorem nat_real (n : ℕ) (h : n < 1000) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this]; simp

theorem offs_at (k : Fin 100) : offs (ix1 k) = ((k.val * (7/99) : ℝ) : EReal) := by
  pointwise [offs, width_at]
  rw [nat_real _ (by omega), ← EReal.coe_mul]

theorem share_at (a b : Fin 3000) (k : Fin 100) : share x (ix3 a b k) = ((tr (sl * (k.val * (7/99))) (pd (atom x a.val) (atom x b.val)) : ℝ) : EReal) := by
  pointwise [share, away, dist_at, offs_at, coef_at, mask_bit]
  rw [← term_ref]
  congr 1
  by_cases h : near (pd (atom x a.val) (atom x b.val))
  · rw [if_pos h, if_pos h]; exact (bit_real True).trans (if_pos trivial)
  · rw [if_neg h, if_neg h]; exact (bit_real False).trans (if_neg not_false)

theorem sum_pairs {p q r : ℕ} (h : (⟨3, ![p, q, r]⟩ : Shape).ReducesTo [0, 1] ⟨1, ![r]⟩) (k : Fin r) (v : (⟨3, ![p, q, r]⟩ : Shape).Idx → EReal) :
    ∑ i ∈ Finset.univ.filter (fun i => h.drop i = ix1 k), v i = ∑ a : Fin p, ∑ b : Fin q, v (ix3 a b k) := by
  rw [← Fintype.sum_prod_type' fun a b => v (ix3 a b k)]
  refine Finset.sum_nbij' (fun i => (i 0, i 1)) (fun p => ix3 p.1 p.2 k) ?_ ?_ ?_ ?_ ?_
  · intro i _; exact Finset.mem_univ _
  · intro p _
    refine Finset.mem_filter.mpr ⟨Finset.mem_univ _, ?_⟩
    funext d; fin_cases d; rfl
  · intro i hi
    have e := congrFun (Finset.mem_filter.mp hi).2 0
    have e2 : i 2 = k := Fin.ext (congrArg Fin.val e)
    funext d
    fin_cases d
    · rfl
    · rfl
    · exact e2.symm
  · intro p _; rfl
  · intro i hi
    have e := congrFun (Finset.mem_filter.mp hi).2 0
    have e2 : i 2 = k := Fin.ext (congrArg Fin.val e)
    congr 1
    funext d
    fin_cases d
    · rfl
    · rfl
    · exact e2

/-- One bin's total over all ordered pairs. -/
def binSum (k : ℕ) : ℝ := allPairs 3000 (fun a b => tr (sl * (k * (7/99))) (pd (atom x a) (atom x b)))

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem bins_at (k : Fin 100) : bins x (ix1 k) = ((binSum x k.val : ℝ) : EReal) := by
  show Ideal.ofBits .f32 0#32 + ∑ i ∈ Finset.univ.filter (fun i => reducesTo_S3000x3000x100_S100_d0_1.drop i = ix1 k), share x i = _
  rw [bits_zero, zero_add, sum_pairs]
  unfold binSum allPairs
  rw [Finset.sum_range, ← coe_sum]
  refine Finset.sum_congr rfl fun a _ => ?_
  rw [Finset.sum_range, ← coe_sum]
  exact Finset.sum_congr rfl fun b _ => share_at x a b k

theorem count_at (k : Fin 100) : count x (ix1 k) = Ideal.div ((binSum x k.val : ℝ) : EReal) ((∑ i : Fin 100, binSum x i.val : ℝ) : EReal) := by
  pointwise [count, bins_at]
  rw [coe_sum]

/-! ## The shells -/

/-- The factor of a ball's volume, as the programs write it. -/
def ballFactor : ℝ := 8784530 / 2097152

theorem bits_ball : Ideal.ofBits .f32 0x40860A92#32 = ((ballFactor : ℝ) : EReal) := by
  unfold ballFactor
  simp [Ideal.ofBits, Ideal.ieee, -EReal.coe_mul]; norm_num

theorem ballFactor_pos : 0 < ballFactor := by unfold ballFactor; norm_num

/-- The volume of shell `k`, and of the ball. -/
def shellVol (k : ℕ) : ℝ := ballFactor * ((((k + 1 : ℕ) : ℝ) * 7 / 100) * (((k + 1 : ℕ) : ℝ) * 7 / 100) * (((k + 1 : ℕ) : ℝ) * 7 / 100) - ((k : ℝ) * 7 / 100) * ((k : ℝ) * 7 / 100) * ((k : ℝ) * 7 / 100))
def ballVol : ℝ := ballFactor * (7 * 7 * 7)

theorem ballVol_pos : 0 < ballVol := mul_pos ballFactor_pos (by norm_num)

theorem shellVol_pos (k : ℕ) : 0 < shellVol k := by
  refine mul_pos ballFactor_pos ?_
  have : (0 : ℝ) ≤ k := Nat.cast_nonneg k
  push_cast
  nlinarith [mul_nonneg this this]

theorem edge_at (k : Fin 101) : edge (ix1 k) = ((k.val * 7 / 100 : ℝ) : EReal) := by
  pointwise [edge]
  rw [nat_real _ (by omega), bits_7, bits_100, ← EReal.coe_mul, Ideal.div_coe (by norm_num), ← EReal.coe_mul]
  congr 1; ring

theorem hi_at (k : Fin 100) : hi (ix1 k) = ((((k.val + 1 : ℕ) : ℝ) * 7 / 100 : ℝ) : EReal) := by
  refine Eq.trans ?_ (edge_at ⟨k.val + 1, by omega⟩)
  unfold hi extractStridedSlice
  congr 1
  funext d
  fin_cases d
  exact Fin.ext (Nat.add_comm 1 k.val)

theorem lo_at (k : Fin 100) : lo (ix1 k) = (((k.val : ℝ) * 7 / 100 : ℝ) : EReal) := by
  refine Eq.trans ?_ (edge_at ⟨k.val, by omega⟩)
  unfold lo extractStridedSlice
  congr 1
  funext d
  fin_cases d
  exact Fin.ext (Nat.zero_add k.val)

theorem shell_at (k : Fin 100) : shell (ix1 k) = ((shellVol k.val : ℝ) : EReal) := by
  pointwise [shell, hi_at, lo_at]
  rw [bits_ball]
  simp only [← EReal.coe_mul, ← EReal.coe_sub]
  rfl

theorem frac_at (k : Fin 100) : frac (ix1 k) = ((shellVol k.val / ballVol : ℝ) : EReal) := by
  pointwise [frac, shell_at]
  rw [bits_ball, bits_7]
  simp only [← EReal.coe_mul]
  show Ideal.div _ ((ballVol : ℝ) : EReal) = _
  rw [Ideal.div_coe ballVol_pos.ne', ← EReal.coe_mul, mul_one_div]

theorem rdf_at (k : Fin 100) : Host.divf (count x) frac (ix1 k) = count x (ix1 k) * ((ballVol / shellVol k.val : ℝ) : EReal) := by
  show Ideal.div (count x (ix1 k)) (frac (ix1 k)) = _
  rw [frac_at, div_ratio _ _ _ (shellVol_pos _) ballVol_pos]

end Cert.ReferenceIdeal.Rdf
-- ==== Proof.HostVal.lean ====
/- What the host operations before the pass leave: the padded coordinates and their transpose, the table of offsets,
   and the table of volume ratios. -/
module

public import proofs.«01_k».proof.Proof.MainRun
public import proofs.«01_k».proof.Proof.RefVal
public import Idealize.ShloMosaic.Lib.Pointwise
public import Idealize.ShloMosaic.Lib.StableHlo.Run
public import Idealize.ShloMosaic.Lib.Routing.OpsSet

@[expose] public section

noncomputable section

namespace Cert.KernelIdeal.Hist

open Cert.KernelIdeal Cert.KernelIdeal.Gen Cert.Rdf
open Idealize.ShloMosaic Idealize.ShloMosaic.TcCoe Idealize.ShloMosaic.Routing

/-- The coordinates with the padding's rows. -/
def padded (x : FVec Ideal S3000x3 .f32) : FVec Ideal S3072x3 .f32 :=
  Host.scatter scatter_S3072x3_S1_S3000x3_01_n_0_0 (fun _ b => b) (broadcastInDim S3072x3 ![] bcast_S_S3072x3 (constant (F := Ideal) S_ .f32 0x49742400#32)) (broadcastInDim S1 ![] bcast_S_S1 (constantI S_ 32 0#32)) x

def width : FVec Ideal S_ .f32 := Host.divf (constant S_ .f32 0x40E00000#32) (constant S_ .f32 0x42C60000#32)
def scale : FVec Ideal S_ .f32 := Host.divf (Host.sqrt (Host.divf (constant S_ .f32 0x3F000000#32) (Host.log (constant S_ .f32 0x40000000#32)))) width
def offRaw : FVec Ideal S104 .f32 := mulf (broadcastInDim S104 ![] bcast_S_S104 scale) (mulf (sitofp .f32 (iotaInDim S104 32 0)) (broadcastInDim S104 ![] bcast_S_S104 width))
def offSel : FVec Ideal S104 .f32 := select (cmpi .slt (iotaInDim S104 32 0) (broadcastInDim S104 ![] bcast_S_S104 (constantI S_ 32 100#32))) offRaw (broadcastInDim S104 ![] bcast_S_S104 (constant S_ .f32 0x461C4000#32))
def offTab : FVec Ideal S104x256 .f32 := broadcastInDim S104x256 ![0, 1] bcast_S104x1_S104x256_0_1 (broadcastInDim S104x1 ![0] bcast_S104_S104x1_0 offSel)

def step : FVec Ideal S_ .f32 := Host.divf (constant S_ .f32 0x40E00000#32) (constant S_ .f32 0x42C80000#32)
def low : FVec Ideal S100 .f32 := mulf (sitofp .f32 (iotaInDim S100 32 0)) (broadcastInDim S100 ![] bcast_S_S100 step)
def high : FVec Ideal S100 .f32 := addf low (broadcastInDim S100 ![] bcast_S_S100 step)
def shell : FVec Ideal S100 .f32 := mulf (broadcastInDim S100 ![] bcast_S_S100 (constant S_ .f32 0x40860A92#32)) (subf (mulf (mulf high high) high) (mulf (mulf low low) low))
def ratio : FVec Ideal S100 .f32 := Host.divf (broadcastInDim S100 ![] bcast_S_S100 (mulf (constant S_ .f32 0x40860A92#32) (constant S_ .f32 0x43AB8000#32))) shell
def ratioTab : FVec Ideal S1x100 .f32 := shapeCast S1x100 ratio shapeCasts_S100_S1x100

variable (m : (ℓ : Loc nD τ sig) → Buf (Elt Ideal) ℓ) (c : Dev nD)

theorem V3_v2 : V3 m c (Proc.devRef .tc main_v2) = padded (m ((c.tc : Thread nD τ).loc main_arg0)) := by
  refine (V3_of m c main_v2 (by decide)).trans ((V2_of m c main_v2 (by decide)).trans ?_)
  after_results_simp
  rfl

theorem V3_v3 : V3 m c (Proc.devRef .tc main_v3) = transpose S3x3072 [1, 0] (padded (m ((c.tc : Thread nD τ).loc main_arg0))) transposes_S3072x3_S3x3072_1_0 := by
  refine (V3_of m c main_v3 (by decide)).trans ((V2_of m c main_v3 (by decide)).trans ?_)
  after_results_simp
  rfl

theorem V1_v11 : V1 m c (Proc.devRef .tc main_v11) = cmpi .slt (iotaInDim S104 32 0) (broadcastInDim S104 ![] bcast_S_S104 (constantI S_ 32 100#32)) := by
  after_results_simp

theorem V1_v16 : V1 m c (Proc.devRef .tc main_v16) = offRaw := by
  after_results_simp
  rfl

theorem V1_cst8 : V1 m c (Proc.devRef .tc main_cst_8) = constant (F := Ideal) S_ .f32 0x461C4000#32 := by
  after_results_simp

theorem V2_v17 : V2 m c (Proc.devRef .tc main_v17) = offSel := by
  have h : V2 m c (Proc.devRef .tc main_v17) = select (V1 m c (Proc.devRef .tc main_v11)) (V1 m c (Proc.devRef .tc main_v16)) (broadcastInDim S104 ![] bcast_S_S104 (V1 m c (Proc.devRef .tc main_cst_8))) := by
    show StableHlo.after hostOps0_1 (V1 m c) _ = _
    generalize V1 m c = W
    simp only [StableHlo.TRef.ternary, StableHlo.TRef.unary, StableHlo.TRef.toBuf, StableHlo.TRef.ofBuf, cast_eq]
    after_results_simp
    rfl
  rw [h, V1_v11, V1_v16, V1_cst8]
  rfl

theorem V3_v19 : V3 m c (Proc.devRef .tc main_v19) = offTab := by
  have h : V3 m c (Proc.devRef .tc main_v19) = broadcastInDim S104x256 ![0, 1] bcast_S104x1_S104x256_0_1 (broadcastInDim S104x1 ![0] bcast_S104_S104x1_0 (V2 m c (Proc.devRef .tc main_v17))) := by
    show StableHlo.after hostOps0_2 (V2 m c) _ = _
    generalize V2 m c = W
    after_results_simp
  rw [h, V2_v17]
  rfl

theorem V3_v37 : V3 m c (Proc.devRef .tc main_v37) = ratioTab := by
  show StableHlo.after hostOps0_2 (V2 m c) _ = _
  generalize V2 m c = W
  after_results_simp
  rfl

theorem V3_cst : V3 m c (Proc.devRef .tc main_cst) = fun i => FloatOps.ofBits (F := Ideal) .f32 (lit2 (S101.rowMajor i)) := by
  refine (V3_of m c main_cst (by decide)).trans ((V2_of m c main_cst (by decide)).trans ?_)
  after_results_simp
  rfl

/-! ## Read at an index -/

open Cert.ReferenceIdeal.Rdf (atom nat_real bits_7 bits_99 bits_100 bits_ball bits_zero ballFactor ballFactor_pos ballVol ballVol_pos shellVol shellVol_pos)

theorem bits_far_atom : Ideal.ofBits .f32 0x49742400#32 = ((1000000 : ℝ) : EReal) := by simp [Ideal.ofBits, Ideal.ieee, -EReal.coe_mul]; norm_num
theorem bits_half : Ideal.ofBits .f32 0x3F000000#32 = ((1/2 : ℝ) : EReal) := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_343 : Ideal.ofBits .f32 0x43AB8000#32 = ((343 : ℝ) : EReal) := by simp [Ideal.ofBits, Ideal.ieee, -EReal.coe_mul]; norm_num

theorem width_at (j : S_.Idx) : width j = ((7/99 : ℝ) : EReal) := by
  show Ideal.div (Ideal.ofBits .f32 0x40E00000#32) (Ideal.ofBits .f32 0x42C60000#32) = _
  rw [bits_7, bits_99, Ideal.div_coe (by norm_num), ← EReal.coe_mul]
  congr 1; norm_num

theorem step_val (j : S_.Idx) : step j = ((7/100 : ℝ) : EReal) := by
  show Ideal.div (Ideal.ofBits .f32 0x40E00000#32) (Ideal.ofBits .f32 0x42C80000#32) = _
  rw [bits_7, bits_100, Ideal.div_coe (by norm_num), ← EReal.coe_mul]
  congr 1; norm_num

theorem scale_at (j : S_.Idx) : scale j = ((sl : ℝ) : EReal) := by
  show Ideal.div (Ideal.sqrt (Ideal.div (Ideal.ofBits .f32 0x3F000000#32) (Ideal.log (Ideal.ofBits .f32 0x40000000#32)))) (width j) = _
  have h2 : (0 : ℝ) < Real.log 2 := Real.log_pos (by norm_num)
  have hp : ¬ (1 / 2 * (1 / Real.log 2) < 0) := not_lt.mpr (by positivity)
  rw [width_at, bits_half, bits_two, Ideal.log_coe, if_neg (by norm_num), Ideal.div_coe h2.ne', ← EReal.coe_mul, Ideal.sqrt_coe, if_neg hp,
    Ideal.div_coe (by norm_num), ← EReal.coe_mul]
  unfold sl
  rw [one_div (Real.log 2)]
  congr 2
  norm_num

theorem offSel_at (k : Fin 100) : offSel (ix1 ⟨k.val, by omega⟩) = ((sl * (k.val * (7/99)) : ℝ) : EReal) := by
  have hb : cmpi .slt (iotaInDim S104 32 0) (broadcastInDim S104 ![] bcast_S_S104 (constantI S_ 32 100#32)) (ix1 (⟨k.val, by omega⟩ : Fin 104)) = 1#1 := by
    revert k; decide +kernel
  show Scalar.select (cmpi .slt (iotaInDim S104 32 0) (broadcastInDim S104 ![] bcast_S_S104 (constantI S_ 32 100#32)) (ix1 (⟨k.val, by omega⟩ : Fin 104))) (offRaw (ix1 ⟨k.val, by omega⟩)) _ = _
  rw [hb]
  show offRaw (ix1 ⟨k.val, by omega⟩) = _
  pointwise [offRaw, scale_at, width_at]
  rw [nat_real _ (by omega), ← EReal.coe_mul, ← EReal.coe_mul]

theorem offTab_at (k : Fin 100) (l : Fin 256) : offTab (ix2 ⟨k.val, by omega⟩ l) = ((sl * (k.val * (7/99)) : ℝ) : EReal) := by
  pointwise [offTab]
  exact offSel_at k

theorem ratio_at (k : Fin 100) : ratio (ix1 k) = ((ballVol / shellVol k.val : ℝ) : EReal) := by
  have hl : low (ix1 k) = ((k.val * (7/100) : ℝ) : EReal) := by
    pointwise [low, step_val]
    rw [nat_real _ (by omega), ← EReal.coe_mul]
  have hh : high (ix1 k) = ((k.val * (7/100) + 7/100 : ℝ) : EReal) := by
    pointwise [high, hl, step_val]
    rw [← EReal.coe_add]
  have hs : shell (ix1 k) = ((shellVol k.val : ℝ) : EReal) := by
    pointwise [shell, hl, hh]
    rw [bits_ball]
    simp only [← EReal.coe_mul, ← EReal.coe_sub]
    unfold shellVol
    congr 1; push_cast; ring
  pointwise [ratio, hs]
  rw [bits_ball, bits_343, ← EReal.coe_mul, Ideal.div_coe (shellVol_pos _).ne', ← EReal.coe_mul, mul_one_div]
  unfold ballVol
  congr 2; norm_num

theorem ratioTab_at (k : Fin 100) : ratioTab (ix2 0 k) = ((ballVol / shellVol k.val : ℝ) : EReal) := by
  pointwise [ratioTab]
  exact ratio_at k

theorem start_zero (k : S3000x3.Idx) (a : Fin 2) :
    scatter_S3072x3_S1_S3000x3_01_n_0_0.start k (broadcastInDim S1 ![] bcast_S_S1 (constantI S_ 32 0#32)) a = 0 := by
  unfold ScatterDims.start
  split
  · rfl
  · rfl

theorem window_self (k : S3000x3.Idx) : scatter_S3072x3_S1_S3000x3_01_n_0_0.window k 0 = (k 0).val ∧ scatter_S3072x3_S1_S3000x3_01_n_0_0.window k 1 = (k 1).val :=
  ⟨rfl, rfl⟩

theorem lands (k : S3000x3.Idx) (a : Fin 3072) (j : Fin 3) :
    scatter_S3072x3_S1_S3000x3_01_n_0_0.resultIdx? k (broadcastInDim S1 ![] bcast_S_S1 (constantI S_ 32 0#32)) = some (ix2 a j) ↔ (k 0).val = a.val ∧ (k 1).val = j.val := by
  rw [ix2_eq_valueIdx]
  refine (resultIdx?_ix2 scatter_S3072x3_S1_S3000x3_01_n_0_0 k _ a j).trans ?_
  have h0 := start_zero k 0
  have h1 := start_zero k 1
  rw [h0, h1, (window_self k).1, (window_self k).2]
  omega

theorem padded_at (x : FVec Ideal S3000x3 .f32) (a : Fin 3072) (j : Fin 3) : padded x (ix2 a j) = atom x a.val j.val := by
  unfold padded atom
  by_cases h : a.val < 3000
  · rw [dif_pos h, dif_pos j.isLt]
    refine scatter_set_hit _ _ _ _ _ _ (fun k hk => ?_) (ix2 ⟨a.val, h⟩ j) ((lands _ a j).mpr ⟨rfl, rfl⟩)
    have e := (lands k a j).mp hk
    refine congrArg x (funext fun d => ?_)
    fin_cases d
    · exact Fin.ext e.1
    · exact Fin.ext e.2
  · rw [dif_neg h]
    refine (scatter_set_miss _ _ _ _ _ (fun k hk => ?_)).trans bits_far_atom
    have e := (lands k a j).mp hk
    have := (k 0).isLt
    exact h (e.1 ▸ this)

theorem padded_t_at (x : FVec Ideal S3000x3 .f32) (a : Fin 3072) (j : Fin 3) :
    transpose S3x3072 [1, 0] (padded x) transposes_S3072x3_S3x3072_1_0 (ix2 j a) = atom x a.val j.val := by
  pointwise
  exact padded_at x a j

end Cert.KernelIdeal.Hist
-- ==== Proof.Join.lean ====
/- The kernel's results and the reference's are the same values. -/
module

public import proofs.«01_k».proof.Defs
public import proofs.«01_k».proof.Proof.EndVal
public import proofs.«01_k».proof.Proof.AccVal
public import proofs.«01_k».proof.Proof.FinVal
public import proofs.«01_k».proof.Proof.HostVal
public import Idealize.ShloMosaic.Lib.ReduceAll

@[expose] public section

noncomputable section

namespace Cert.Join

open Cert.Rdf Cert.KernelIdeal Cert.KernelIdeal.Gen Cert.KernelIdeal.Hist
open Idealize.ShloMosaic Idealize.ShloMosaic.TcCoe
open Cert.ReferenceIdeal.Rdf (atom atom_at binSum count frac count_at rdf_at ballVol shellVol)

/-! ## The sums -/

/-- The scaled centre of bin `k`. -/
def centre (k : ℕ) : ℝ := sl * (k * (7/99))

variable (x : FVec Ideal S3000x3 .f32)

theorem tr_far (o : ℝ) (D : EReal) (h : ¬ near D) : tr o D = 0 := by
  unfold tr
  split
  · contradiction
  · rfl

/-- A bin of the reference counts each pair of atoms twice. -/
theorem binSum_eq (k : ℕ) : binSum x k = allPairs 3000 (upper (pairTerm (atom x) (centre k))) + allPairs 3000 (upper (pairTerm (atom x) (centre k))) := by
  refine all_double 3000 (pairTerm (atom x) (centre k)) (fun a b => ?_) (fun a => ?_)
  · unfold pairTerm; rw [pd_comm]
  · exact tr_far _ _ (not_near_self _)

/-- The pass counts each pair of atoms once, and no pair with a padding row. -/
theorem pass_eq (hx : ∀ i, x i < ((500000 : ℝ) : EReal)) (k : ℕ) :
    ∑ l : Fin 256, ∑ t : Fin 78, tileSum (pairTerm (atom x) (centre k)) t l.val = allPairs 3000 (upper (pairTerm (atom x) (centre k))) := by
  rw [← Finset.sum_range (fun l => ∑ t : Fin 78, tileSum (pairTerm (atom x) (centre k)) t l), tiles_all]
  refine all_cut _ 3000 3072 (by norm_num) fun a b _ _ hab => ?_
  unfold upper
  split
  · rename_i hlt
    have hb : ¬ b < 3000 := by omega
    have hpad (n : ℕ) (hn : ¬ n < 3000) (j : ℕ) : atom x n j = ((1000000 : ℝ) : EReal) := by unfold atom; rw [dif_neg hn]
    refine tr_far _ _ ?_
    by_cases ha : a < 3000
    · refine not_near_pad _ _ ?_ (hpad b hb 0)
      have e : atom x a 0 = x (ix2 ⟨a, ha⟩ 0) := atom_at x ⟨a, ha⟩ 0
      rw [e]
      exact hx _
    · exact not_near_pads _ _ (fun j _ => hpad a ha j) (fun j _ => hpad b hb j)
  · rfl

/-! ## The results -/

variable (m : (ℓ : Loc nD τ sig) → Buf (Elt Ideal) ℓ) (c : Dev nD)

/-- The coordinates the kernel is given. -/
abbrev coords : FVec Ideal S3000x3 .f32 := m ((c.tc : Thread nD τ).loc main_arg0)

/-- The accumulated row of bin `k`, after the pass. -/
theorem hist_at (k : Fin 100) (l : Fin 256) :
    W4 (V3 m) c (Proc.devRef .tc main_v38) (ix2 ⟨k.val, by omega⟩ l) = ((∑ t : Fin 78, tileSum (pairTerm (atom (coords m c)) (centre k.val)) t l.val : ℝ) : EReal) := by
  rw [W4_v38]
  exact acc_end c (V3 m c) (atom (coords m c)) (centre k.val) (fun a j => (congrFun (V3_v2 m c) _).trans (padded_at _ a j))
    (fun a j => (congrFun (V3_v3 m c) _).trans (padded_t_at _ a j)) ⟨k.val, by omega⟩ l ((congrFun (V3_v19 m c) _).trans (offTab_at k l)) last_lt

theorem cnt_eq (hx : ∀ i, coords m c i < ((500000 : ℝ) : EReal)) (k : Fin 100) :
    cntVal (W4 (V3 m) c (Proc.devRef .tc main_v38)) (ix2 0 k) = count (coords m c) (ix1 k) := by
  rw [cnt_at _ (fun k l => ∑ t : Fin 78, tileSum (pairTerm (atom (coords m c)) (centre k)) t l) (hist_at m c), count_at]
  simp only [pass_eq _ hx, binSum_eq, Finset.sum_add_distrib]
  exact (div_double _ _).symm

theorem ratio_kept : W4 (V3 m) c (Proc.devRef .tc main_v37) = ratioTab := (W4_of (V3 m) c main_v37 (by decide)).trans (V3_v37 m c)

theorem cast_at (y : FVec Ideal S1x100 .f32) (k : Fin 100) : shapeCast S100 y shapeCasts_S1x100_S100 (ix1 k) = y (ix2 0 k) := by
  pointwise

theorem idx1 (i : S100.Idx) : ∃ k : Fin 100, i = ix1 k := by
  refine ⟨i 0, funext fun d => ?_⟩
  fin_cases d
  rfl

theorem count_eq (hx : ∀ i, coords m c i < ((500000 : ℝ) : EReal)) : W6 (V3 m) c (Proc.devRef .tc main_v40) = count (coords m c) := by
  rw [W6_v40, W5_v39_0]
  funext i
  obtain ⟨k, rfl⟩ := idx1 i
  exact (cast_at _ _).trans (cnt_eq m c hx _)

theorem rdf_eq (hx : ∀ i, coords m c i < ((500000 : ℝ) : EReal)) : W6 (V3 m) c (Proc.devRef .tc main_v41) = Host.divf (count (coords m c)) frac := by
  rw [W6_v41, W5_v39_1]
  funext i
  obtain ⟨k, rfl⟩ := idx1 i
  refine (cast_at _ _).trans ?_
  rw [rdf_val_at, cnt_eq m c hx, ratio_kept, ratioTab_at]
  exact (rdf_at _ _).symm

theorem edges_eq : W6 (V3 m) c (Proc.devRef .tc main_cst) = fun i => FloatOps.ofBits (F := Ideal) .f32 (lit2 (S101.rowMajor i)) :=
  (W6_of (V3 m) c main_cst (by decide)).trans ((W5_of (V3 m) c main_cst (by decide) (by decide)).trans ((W4_of (V3 m) c main_cst (by decide)).trans (V3_cst m c)))

theorem edges_same : ∀ n : Fin 101, lit2 n = Cert.ReferenceIdeal.lit0 n := by decide

/-! ## The precondition -/

theorem pre_facts : Cert.Pre_below_padding.Facts := ⟨by decide, by decide, by decide⟩

theorem bits_bound : Ideal.ofBits .f32 0x48F42400#32 = ((500000 : ℝ) : EReal) := by simp [Ideal.ofBits, Ideal.ieee, -EReal.coe_mul]; norm_num

theorem below (h : Cert.Pre_KernelIdeal_below_padding (hPre_below_padding := pre_facts) m) (i : S3000x3.Idx) : coords m c i < ((500000 : ℝ) : EReal) := by
  haveI := pre_facts
  haveI : Subsingleton (⟨0, ![]⟩ : Shape).Idx := ⟨fun a b => funext fun d => d.elim0⟩
  have e := Host.reduce_andi_all _ _ _ _ _ (congrFun (h c) (fun d => d.elim0)) i
  rw [← bits_bound]
  by_contra hn
  have e' : BitVec.ofBool (decide (coords m c i < Ideal.ofBits .f32 0x48F42400#32)) = 1#1 := e
  rw [decide_eq_false hn] at e'
  exact absurd e' (by decide)

end Cert.Join
end
-- ==== Proof.lean ====
/- The claims put together: the frames of the kernel, of its idealization and of the reference, the two named constants, and
   that the idealization and the reference end with the same results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.MainRun
public import proofs.«01_k».proof.Proof.WMainRun
public import proofs.«01_k».proof.Proof.Join
public import Idealize.ShloMosaic.Adequacy
public import Idealize.ShloMosaic.Lib.Quiescent
public import Idealize.ShloMosaic.Init

@[expose] public section

noncomputable section

namespace Cert.Proof

open Idealize.ShloMosaic Idealize.SL.Sem

/-- The reference, run from any memory, leaves its argument and every semaphore counter. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2.2.2, sem_eq_zero_of_no_sems (by decide) r.2⟩) (Cert.ReferenceIdeal.Value.run m g)

/-- The two named constants are what their words stand for. -/
theorem constants : Cert.preserves_Kernel_KernelIdeal :=
  ⟨IdealRules.named_const.statement Cert.KernelIdeal.κ "sl" .f32 0x4140307C#32 (((Real.sqrt ((1 / 2) * (Real.log 2)⁻¹)) * (99 / 7) : ℝ) : EReal) rfl,
    IdealRules.named_const.statement Cert.KernelIdeal.κ "far" .f32 0x46EA6000#32 ⊤ rfl⟩

open Cert.Join in
/-- The idealized kernel and the reference, from the same coordinates below the padding's, end with the same three results. -/
theorem same_results : Cert.algebraic_KernelIdeal_ReferenceIdeal_pre_below_padding (hKernelIdeal := Cert.KernelIdeal.Gen.facts)
    (hReferenceIdeal := Cert.ReferenceIdeal.Gen.facts) (hPre_below_padding := pre_facts) := by
  intro m g m' g' hpre hm
  refine ⟨fun c => Cert.ReferenceIdeal.Rdf.count (coords m c), fun _ i => FloatOps.ofBits (F := Ideal) .f32 (Cert.KernelIdeal.lit2 (Cert.KernelIdeal.S101.rowMajor i)),
    fun c => Host.divf (Cert.ReferenceIdeal.Rdf.count (coords m c)) Cert.ReferenceIdeal.Rdf.frac, ?_, ?_⟩
  · refine (θ_run _ _ _).mono (fun r h c => ?_) (Cert.KernelIdeal.Hist.main_run m g)
    have hx := below m c hpre
    exact ⟨(h.1 c _ (Pipeline.devRef_mem_ucRefs (b := Cert.KernelIdeal.main_v40) (by decide))).trans (count_eq m c hx),
      (h.1 c _ (Pipeline.devRef_mem_ucRefs (b := Cert.KernelIdeal.main_cst) (by decide))).trans (edges_eq m c),
      (h.1 c _ (Pipeline.devRef_mem_ucRefs (b := Cert.KernelIdeal.main_v41) (by decide))).trans (rdf_eq m c hx),
      (h.1 c _ (Pipeline.devRef_mem_ucRefs (b := Cert.KernelIdeal.main_arg0) (by decide))).trans (Cert.KernelIdeal.Hist.arg_kept m c)⟩
  · refine (θ_run _ _ _).mono (fun r h c => ?_) (Cert.ReferenceIdeal.Value.run m' g')
    refine ⟨(h c).1.trans ?_, (h c).2.1.trans ?_, (h c).2.2.1.trans ?_, (h c).2.2.2⟩
    · rw [Cert.ReferenceIdeal.Rdf.res_count]
      exact congrArg Cert.ReferenceIdeal.Rdf.count (hm c)
    · funext i
      exact congrArg (FloatOps.ofBits (F := Ideal) .f32) (edges_same _).symm
    · rw [Cert.ReferenceIdeal.Rdf.res_rdf]
      exact congrArg (fun x => Host.divf (Cert.ReferenceIdeal.Rdf.count x) Cert.ReferenceIdeal.Rdf.frac) (hm c)

theorem claim : Cert.Claim :=
  ⟨Cert.Kernel.Gen.facts, Cert.KernelIdeal.Gen.facts, Cert.ReferenceIdeal.Gen.facts, Cert.Join.pre_facts,
    fun m g _ => Cert.Kernel.Hist.frame_run m g,
    fun m g _ => Cert.KernelIdeal.Hist.frame_run m g,
    fun m g _ => Cert.KernelIdeal.Hist.frame_run m g,
    fun m g _ => reference_frame m g,
    fun m g _ => reference_frame m g,
    constants, same_results⟩

end Cert.Proof

end
